-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x32 : Shape := ⟨2, ![512, 32]⟩
abbrev S1024x1 : Shape := ⟨2, ![1024, 1]⟩
abbrev S4x512x1024 : Shape := ⟨3, ![4, 512, 1024]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x512 .bf16) (main_arg1 : FVec F S512x32 .bf16) (main_arg2 : IVec S1024x1 32) (main_arg3 : FVec F S4x512x1024 .bf16) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 32#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  main_v5
-- ==== Pre_routed_ReferenceIdeal.lean ====
abbrev S1024x512 : Shape := ⟨2, ![1024, 512]⟩
abbrev S512x32 : Shape := ⟨2, ![512, 32]⟩
abbrev S1024x1 : Shape := ⟨2, ![1024, 1]⟩
abbrev S32x512x1024 : Shape := ⟨3, ![32, 512, 1024]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x512 .bf16) (main_arg1 : FVec F S512x32 .bf16) (main_arg2 : IVec S1024x1 32) (main_arg3 : FVec F S32x512x1024 .bf16) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 32#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  main_v5
-- ==== Kernel.lean ====
abbrev S1024x512 : Shape := ⟨2, ![1024, 512]⟩
abbrev S512x32 : Shape := ⟨2, ![512, 32]⟩
abbrev S1024x1 : Shape := ⟨2, ![1024, 1]⟩
abbrev S4x512x1024 : Shape := ⟨3, ![4, 512, 1024]⟩
abbrev S1024x1024 : Shape := ⟨2, ![1024, 1024]⟩
abbrev S7 : Shape := ⟨1, ![7]⟩
abbrev S1024x32 : Shape := ⟨2, ![1024, 32]⟩
abbrev S1024 : Shape := ⟨1, ![1024]⟩
abbrev S1024x128 : Shape := ⟨2, ![1024, 128]⟩
abbrev S128x512 : Shape := ⟨2, ![128, 512]⟩
abbrev S1x512x1024 : Shape := ⟨3, ![1, 512, 1024]⟩
abbrev S512x1024 : Shape := ⟨2, ![512, 1024]⟩
abbrev S32x512 : Shape := ⟨2, ![32, 512]⟩
abbrev S32x1024 : Shape := ⟨2, ![32, 1024]⟩
abbrev S_ : Shape := ⟨0, ![]⟩
abbrev S1 : Shape := ⟨1, ![1]⟩
abbrev S128x1024 : Shape := ⟨2, ![128, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x512, .bf16⟩
  | .hbm, ⟨1, _⟩ => ⟨S512x32, .bf16⟩
  | .hbm, ⟨2, _⟩ => ⟨S1024x1, .i32⟩
  | .hbm, ⟨3, _⟩ => ⟨S4x512x1024, .bf16⟩
  | .hbm, ⟨4, _⟩ => ⟨S1024x1024, .f32⟩
  | .local _ .vmem, ⟨0, _⟩ => ⟨S1024x512, .bf16⟩
  | .local _ .vmem, ⟨1, _⟩ => ⟨S1024x1, .i32⟩
  | .local _ .vmem, ⟨2, _⟩ => ⟨S4x512x1024, .bf16⟩
  | .local _ .vmem, ⟨3, _⟩ => ⟨S1024x1024, .f32⟩
  | .local _ .vmem, ⟨4, _⟩ => ⟨S1024x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v32 : BitVec 32 := Scalar.muli v2 c128_i32
  let v48 : BitVec 32 := Scalar.addi v32 c0_i32
  let v49 : Index := Scalar.indexCast v48
  let c0_9 : Index := 0#32
  ![v49.toNat, 0]
def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_23 : BitVec 32 := 1#32
  let v84 : BitVec 32 := Scalar.addi v2 c1_i32_23
  let c8_i32_24 : BitVec 32 := 8#32
  let v85 : BitVec 32 := Scalar.remsi v84 c8_i32_24
  let c1_i32_26 : BitVec 32 := 1#32
  let v86 : BitVec 32 := Scalar.muli v85 c1_i32_26
  let v87 : BitVec 32 := Scalar.addi c0_i32_27 v86
  v87.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v88 : BitVec 32 := Scalar.addi v2 c2_i32
  let c8_i32_28 : BitVec 32 := 8#32
  let v89 : BitVec 32 := Scalar.remsi v88 c8_i32_28
  let c1_i32_30 : BitVec 32 := 1#32
  let v90 : BitVec 32 := Scalar.muli v89 c1_i32_30
  let v91 : BitVec 32 := Scalar.addi c0_i32_31 v90
  v91.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v92 : BitVec 32 := Scalar.addi v2 c3_i32
  let c8_i32_32 : BitVec 32 := 8#32
  let v93 : BitVec 32 := Scalar.remsi v92 c8_i32_32
  let c1_i32_34 : BitVec 32 := 1#32
  let v94 : BitVec 32 := Scalar.muli v93 c1_i32_34
  let v95 : BitVec 32 := Scalar.addi c0_i32_35 v94
  v95.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v96 : BitVec 32 := Scalar.addi v2 c4_i32
  let c8_i32_36 : BitVec 32 := 8#32
  let v97 : BitVec 32 := Scalar.remsi v96 c8_i32_36
  let c1_i32_38 : BitVec 32 := 1#32
  let v98 : BitVec 32 := Scalar.muli v97 c1_i32_38
  let v99 : BitVec 32 := Scalar.addi c0_i32_39 v98
  v99.toNat
def k0_dev5 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v100 : BitVec 32 := Scalar.addi v2 c5_i32
  let c8_i32_40 : BitVec 32 := 8#32
  let v101 : BitVec 32 := Scalar.remsi v100 c8_i32_40
  let c1_i32_42 : BitVec 32 := 1#32
  let v102 : BitVec 32 := Scalar.muli v101 c1_i32_42
  let v103 : BitVec 32 := Scalar.addi c0_i32_43 v102
  v103.toNat
def k0_dev6 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v104 : BitVec 32 := Scalar.addi v2 c6_i32
  let c8_i32_44 : BitVec 32 := 8#32
  let v105 : BitVec 32 := Scalar.remsi v104 c8_i32_44
  let c1_i32_46 : BitVec 32 := 1#32
  let v106 : BitVec 32 := Scalar.muli v105 c1_i32_46
  let v107 : BitVec 32 := Scalar.addi c0_i32_47 v106
  v107.toNat
def k0_dev7 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v108 : BitVec 32 := Scalar.addi v2 c7_i32
  let c8_i32_48 : BitVec 32 := 8#32
  let v109 : BitVec 32 := Scalar.remsi v108 c8_i32_48
  let c1_i32_50 : BitVec 32 := 1#32
  let v110 : BitVec 32 := Scalar.muli v109 c1_i32_50
  let v111 : BitVec 32 := Scalar.addi c0_i32_51 v110
  v111.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v32 : BitVec 32 := Scalar.muli v2 c128_i32
  let c0_i32_59 : BitVec 32 := 0#32
  ![v32.toNat, 0]
def k0_dev8 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v112 : BitVec 32 := Scalar.addi v2 c1_i32_53
  let c8_i32_54 : BitVec 32 := 8#32
  let v113 : BitVec 32 := Scalar.remsi v112 c8_i32_54
  let c1_i32_57 : BitVec 32 := 1#32
  let v114 : BitVec 32 := Scalar.muli v113 c1_i32_57
  let v115 : BitVec 32 := Scalar.addi c0_i32_58 v114
  v115.toNat
def k0_dev9 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_61 : BitVec 32 := 2#32
  let v122 : BitVec 32 := Scalar.addi v2 c2_i32_61
  let c8_i32_62 : BitVec 32 := 8#32
  let v123 : BitVec 32 := Scalar.remsi v122 c8_i32_62
  let c1_i32_65 : BitVec 32 := 1#32
  let v124 : BitVec 32 := Scalar.muli v123 c1_i32_65
  let v125 : BitVec 32 := Scalar.addi c0_i32_66 v124
  v125.toNat
def k0_dev10 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_69 : BitVec 32 := 3#32
  let v132 : BitVec 32 := Scalar.addi v2 c3_i32_69
  let c8_i32_70 : BitVec 32 := 8#32
  let v133 : BitVec 32 := Scalar.remsi v132 c8_i32_70
  let c1_i32_73 : BitVec 32 := 1#32
  let v134 : BitVec 32 := Scalar.muli v133 c1_i32_73
  let v135 : BitVec 32 := Scalar.addi c0_i32_74 v134
  v135.toNat
def k0_dev11 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_77 : BitVec 32 := 4#32
  let v142 : BitVec 32 := Scalar.addi v2 c4_i32_77
  let c8_i32_78 : BitVec 32 := 8#32
  let v143 : BitVec 32 := Scalar.remsi v142 c8_i32_78
  let c1_i32_81 : BitVec 32 := 1#32
  let v144 : BitVec 32 := Scalar.muli v143 c1_i32_81
  let v145 : BitVec 32 := Scalar.addi c0_i32_82 v144
  v145.toNat
def k0_dev12 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_85 : BitVec 32 := 5#32
  let v152 : BitVec 32 := Scalar.addi v2 c5_i32_85
  let c8_i32_86 : BitVec 32 := 8#32
  let v153 : BitVec 32 := Scalar.remsi v152 c8_i32_86
  let c1_i32_89 : BitVec 32 := 1#32
  let v154 : BitVec 32 := Scalar.muli v153 c1_i32_89
  let v155 : BitVec 32 := Scalar.addi c0_i32_90 v154
  v155.toNat
def k0_dev13 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_93 : BitVec 32 := 6#32
  let v162 : BitVec 32 := Scalar.addi v2 c6_i32_93
  let c8_i32_94 : BitVec 32 := 8#32
  let v163 : BitVec 32 := Scalar.remsi v162 c8_i32_94
  let c1_i32_97 : BitVec 32 := 1#32
  let v164 : BitVec 32 := Scalar.muli v163 c1_i32_97
  let v165 : BitVec 32 := Scalar.addi c0_i32_98 v164
  v165.toNat
def k0_dev14 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_101 : BitVec 32 := 7#32
  let v172 : BitVec 32 := Scalar.addi v2 c7_i32_101
  let c8_i32_102 : BitVec 32 := 8#32
  let v173 : BitVec 32 := Scalar.remsi v172 c8_i32_102
  let c1_i32_105 : BitVec 32 := 1#32
  let v174 : BitVec 32 := Scalar.muli v173 c1_i32_105
  let v175 : BitVec 32 := Scalar.addi c0_i32_106 v174
  v175.toNat
def k0_off3 (d0 : Dev nD) (c1_i32_110 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_109 : BitVec 32 := 8#32
  let v188 : BitVec 32 := Scalar.addi v2 c8_i32_109
  let v189 : BitVec 32 := Scalar.subi v188 c1_i32_110
  let c8_i32_111 : BitVec 32 := 8#32
  let v190 : BitVec 32 := Scalar.remsi v189 c8_i32_111
  let c128_i32_112 : BitVec 32 := 128#32
  let v191 : BitVec 32 := Scalar.muli v190 c128_i32_112
  let c0_i32_117 : BitVec 32 := 0#32
  ![v191.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512x32 : Shape := ⟨2, ![512, 32]⟩
abbrev S1024x1 : Shape := ⟨2, ![1024, 1]⟩
abbrev S32x512x1024 : Shape := ⟨3, ![32, 512, 1024]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩
abbrev S1024x512x1024 : Shape := ⟨3, ![1024, 512, 1024]⟩

abbrev nBuf : Space → Nat
  | .hbm => 39
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x32, .bf16⟩
  | .hbm, ⟨2, _⟩ => ⟨S1024x1, .i32⟩
  | .hbm, ⟨3, _⟩ => ⟨S32x512x1024, .bf16⟩
  | .hbm, ⟨4, _⟩ => ⟨S1024, .i32⟩
  | .hbm, ⟨5, _⟩ => ⟨S1024, .i32⟩
  | .hbm, ⟨6, _⟩ => ⟨S1x1024, .i32⟩
  | .hbm, ⟨7, _⟩ => ⟨S1024x1, .i32⟩
  | .hbm, ⟨8, _⟩ => ⟨S1024x1024, .i32⟩
  | .hbm, ⟨9, _⟩ => ⟨S1024x1024, .i32⟩
  | .hbm, ⟨10, _⟩ => ⟨S1024x1024, .i1⟩
  | .hbm, ⟨11, _⟩ => ⟨S1x1024, .i32⟩
  | .hbm, ⟨12, _⟩ => ⟨S1024x1, .i32⟩
  | .hbm, ⟨13, _⟩ => ⟨S1024x1024, .i32⟩
  | .hbm, ⟨14, _⟩ => ⟨S1024x1024, .i32⟩
  | .hbm, ⟨15, _⟩ => ⟨S1024x1024, .i1⟩
  | .hbm, ⟨16, _⟩ => ⟨S1024x1024, .i1⟩
  | .hbm, ⟨17, _⟩ => ⟨S1024x1024, .i32⟩
  | .hbm, ⟨18, _⟩ => ⟨S_, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1024x1, .i32⟩
  | .hbm, ⟨28, _⟩ => ⟨S1024x512x1024, .bf16⟩
  | .hbm, ⟨29, _⟩ => ⟨S1024x1024, .f32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S1024x1, .i1⟩
  | .hbm, ⟨34, _⟩ => ⟨S_, .f32⟩
  | .hbm, ⟨35, _⟩ => ⟨S_, .f32⟩
  | .hbm, ⟨36, _⟩ => ⟨S1024x1024, .i1⟩
  | .hbm, ⟨37, _⟩ => ⟨S1024x1024, .f32⟩
  | .hbm, ⟨38, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Proof.RunIdeal.Cells.lean ====
/- The all-gather's vocabulary: the peers a device talks to, its semaphore cells, the row block of the gather
   buffer each device fills, and what that block holds. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Ring.Tabled
public import Idealize.ShloMosaic.Lib.ValueIdx
public import Idealize.ShloMosaic.Lib.Pipeline.ValueKit.Geometry
public import Idealize.ShloMosaic.Lib.Tactic

@[expose] public section

noncomputable section

namespace Cert.KernelIdeal.Gather

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the pipeline's rounds and the all-gather's, whose duties a cell numbers by the seven peers -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers -/

/-- The device `k + 1` places after `c`: the target of `c`'s signal and copy number `k`. -/
def peer (c : Dev nD) (k : Fin 7) : Dev nD := ⟨(c.val + (k.val + 1)) % 8, Nat.mod_lt _ (Nat.zero_lt_succ 7)⟩
/-- The device `k + 1` places before `c`: the source of the copy number `k` that reaches `c`. -/
def back (c : Dev nD) (k : Fin 7) : Dev nD := ⟨(c.val + (7 - k.val)) % 8, Nat.mod_lt _ (Nat.zero_lt_succ 7)⟩

theorem back_peer (k : Fin 7) (c : Dev nD) : back (peer c k) k = c := by revert c k; decide
theorem peer_back (k : Fin 7) (c : Dev nD) : peer (back c k) k = c := by revert c k; decide
theorem back_ne (k : Fin 7) (c : Dev nD) : back c k ≠ c := by revert c k; decide
theorem back_inj (c : Dev nD) : Function.Injective (back c) := by revert c; decide
/-- Every device is `c` itself or one of the seven before it. -/
theorem eq_or_back (c d : Dev nD) : d = c ∨ ∃ k, d = back c k := by revert c d; decide

def shift (k : Fin 7) : Dev nD ≃ Dev nD := ⟨(peer · k), (back · k), back_peer k, peer_back k⟩

/-! ## Memrefs and semaphore cells -/

abbrev xM : Memref sig .tc .vmem S1024x512 .bf16 := Memref.whole cc0_stg0_0
abbrev iM : Memref sig .tc .vmem S1024x1 .i32 := Memref.whole cc0_stg1_0
abbrev wM : Memref sig .tc .vmem S4x512x1024 .bf16 := Memref.whole cc0_stg2_0
abbrev oM : Memref sig .tc .vmem S1024x1024 .f32 := Memref.whole cc0_stg3_0
abbrev gM : Memref sig .tc .vmem S1024x1024 .bf16 := Memref.whole cc0_scratch0

/-- The rows of the gather buffer that device `d` fills. -/
abbrev blkM (d : Dev nD) : Memref sig .tc .vmem S128x1024 .bf16 :=
  gM.slice (Rect.unit (s := S1024x1024) (k0_off2 d) S128x1024.size (k0_off2_inb d)) (fun _ => rfl)

abbrev barS : Sem sig := (SemArray.scalar (sig.barrier 0 rfl) : Sems sig S_).sem
def sendS (k : Fin 7) : DmaSem sig := ⟨4 + k.val, Nat.lt_of_lt_of_le (Nat.add_lt_add_left k.isLt 4) (Nat.le_add_right 11 7)⟩
def recvS (k : Fin 7) : DmaSem sig := ⟨11 + k.val, Nat.add_lt_add_left k.isLt 11⟩

abbrev barCell (c : Dev nD) : GSem nD τ sig := ((c : Thread nD τ), .reg barS)
abbrev sendCell (c : Dev nD) (k : Fin 7) : GSem nD τ sig := ((c : Thread nD τ), .dma (sendS k))
abbrev recvCell (c : Dev nD) (k : Fin 7) : GSem nD τ sig := ((c : Thread nD τ), .dma (recvS k))

/-- The scoped semaphores of the kernel: the seven of the sends, then the seven of the receives. -/
def osem (i : Fin 14) : SemLoc sig := .dma ⟨4 + i.val, Nat.add_lt_add_left i.isLt 4⟩
/-- Those and, first, the barrier. -/
def csem : Fin 15 → SemLoc sig := Fin.cases (.reg barS) osem
def kcell (ck : Dev nD × Fin 15) : GSem nD τ sig := ((ck.1 : Thread nD τ), csem ck.2)

/-- The place of the `k`-th send among the cells, and of the `k`-th receive. -/
def sIx (k : Fin 7) : Fin 15 := ⟨1 + k.val, Nat.lt_of_lt_of_le (Nat.add_lt_add_left k.isLt 1) (Nat.le_add_right 8 7)⟩
def rIx (k : Fin 7) : Fin 15 := ⟨8 + k.val, Nat.add_lt_add_left k.isLt 8⟩

theorem kcell_bar (c : Dev nD) : kcell (c, 0) = barCell c := rfl
theorem kcell_send (c : Dev nD) (k : Fin 7) : kcell (c, sIx k) = sendCell c k := by fin_cases k <;> rfl
theorem kcell_recv (c : Dev nD) (k : Fin 7) : kcell (c, rIx k) = recvCell c k := by fin_cases k <;> rfl

/-- What one copy adds to a semaphore. -/
abbrev N : ℕ := (gM.slice (Rect.unit (s := S1024x1024) (k0_off2 0) S128x1024.size (k0_off2_inb 0)) (fun _ => rfl)).view.dmaCredit
theorem N_pos : 0 < N := View.dmaCredit_pos _ (by decide)

/-! ## The row blocks -/

omit [FloatOps F] in
theorem mem_blk (d : Dev nD) (i : S1024x1024.Idx) : i ∈ (blkM d).view.set ↔ (i 0).val / 128 = d.val := by
  have e : (blkM d).view.set = (Rect.unit (s := S1024x1024) (k0_off2 d) S128x1024.size (k0_off2_inb d)).set := View.set_slice_whole _ _
  rw [e, Rect.mem_set_unit, Fin.forall_fin_two, k0_off2_eq]
  have h1 := (i 1).isLt
  show ((128 * d.val ≤ (i 0).val ∧ (i 0).val < 128 * d.val + 128) ∧ (0 ≤ (i 1).val ∧ (i 1).val < 0 + 1024)) ↔ _
  have : (i 1).val < 1024 := h1
  omega

end Cert.KernelIdeal.Gather

end
-- ==== Proof.RunIdeal.Contents.lean ====
/- What the gather buffer of the all-gather holds when it is complete, what each device's stores leave in it, and the
   buffer divided into the eight devices' row blocks. -/
module

public import proofs.«01_k».proof.Proof.RunIdeal.Cells

@[expose] public section

noncomputable section

namespace Cert.KernelIdeal.Gather

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## What device `c` stages -/

def xstg (c : Dev nD) : (cc0_stg0_0 : Ref sig .tc).ty.Contents (Elt F) :=
  (win0_0.blk (0 : Fin 1)).view.read (Elt F) (m ((c : Thread nD τ).loc main_arg0))
def istg (c : Dev nD) : (cc0_stg1_0 : Ref sig .tc).ty.Contents (Elt F) :=
  (win0_1.blk (0 : Fin 1)).view.read (Elt F) (m ((c : Thread nD τ).loc main_arg2))
def wstg (c : Dev nD) : (cc0_stg2_0 : Ref sig .tc).ty.Contents (Elt F) :=
  (win0_2.blk (0 : Fin 1)).view.read (Elt F) (m ((c : Thread nD τ).loc main_arg3))

/-! ## What device `c` computes -/

/-- The rows of `x` gathered into `c`'s 128 slots. -/
def slots (c : Dev nD) : FVec F S128x512 .bf16 := k0_pay3 c (istg m c) (xstg m c)

/-- The weights of `c`'s `j`-th expert, as loaded. -/
def wld (c : Dev nD) : Fin 4 → Vec F S1x512x1024 .bf16
  | 0 => wM.view.readAt (Elt F) (Rect.unit (s := S4x512x1024) ![0, 0, 0] S1x512x1024.size inb_S4x512x1024_S1x512x1024_0_0_0).toLoadRect (wstg m c)
  | 1 => wM.view.readAt (Elt F) (Rect.unit (s := S4x512x1024) ![1, 0, 0] S1x512x1024.size inb_S4x512x1024_S1x512x1024_1_0_0).toLoadRect (wstg m c)
  | 2 => wM.view.readAt (Elt F) (Rect.unit (s := S4x512x1024) ![2, 0, 0] S1x512x1024.size inb_S4x512x1024_S1x512x1024_2_0_0).toLoadRect (wstg m c)
  | 3 => wM.view.readAt (Elt F) (Rect.unit (s := S4x512x1024) ![3, 0, 0] S1x512x1024.size inb_S4x512x1024_S1x512x1024_3_0_0).toLoadRect (wstg m c)

/-- The 32 rows that `c`'s `j`-th expert makes. -/
def rows (c : Dev nD) : Fin 4 → FVec F S32x1024 .bf16
  | 0 => k0_pay4 (slots m c) (wld m c 0)
  | 1 => k0_pay5 (slots m c) (wld m c 1)
  | 2 => k0_pay6 (slots m c) (wld m c 2)
  | 3 => k0_pay8 (k0_pay7 (slots m c) (wld m c 3))

/-- The gathered buffer, complete: row `r` comes from device `r / 128`, from its expert `r % 128 / 32`. -/
def full : (cc0_scratch0 : Ref sig .tc).ty.Contents (Elt F) := fun i =>
  rows m ⟨(i 0).val / 128, Nat.div_lt_of_lt_mul (i 0).isLt⟩
    ⟨(i 0).val % 128 / 32, Nat.div_lt_of_lt_mul (Nat.mod_lt _ (Nat.zero_lt_succ 127))⟩
    (ValueIdx.ix2 ⟨(i 0).val % 32, Nat.mod_lt _ (Nat.zero_lt_succ 31)⟩ (i 1))

/-- The kernel's result on device `c`. -/
def outAt (c : Dev nD) : (cc0_stg3_0 : Ref sig .tc).ty.Contents (Elt F) :=
  k0_pay1 (k0_pay9 (F := F) (k0_pay2 (F := F) (istg m c))) (full m)

/-! ## The four stores -/

/-- The first `32 * n` rows of `c`'s block hold what they should. -/
def Filled (c : Dev nD) (n : ℕ) (g : (cc0_scratch0 : Ref sig .tc).ty.Contents (Elt F)) : Prop :=
  ∀ i : S1024x1024.Idx, 128 * c.val ≤ (i 0).val → (i 0).val < 128 * c.val + 32 * n → g i = full m i

theorem filled_zero (c : Dev nD) (g) : Filled m c 0 g := fun i h1 h2 => absurd h2 (by omega)

/-- The store of the `j`-th expert's rows fills the next 32. -/
theorem filled_step (c : Dev nD) (j : Fin 4) (off : Fin 2 → ℕ) (inb : ∀ a, off a + S32x1024.size a ≤ S1024x1024.size a)
    (hoff : off = ![128 * c.val + 32 * j.val, 0]) (w : FVec F S32x1024 .bf16) (hw : w = rows m c j)
    (g : (cc0_scratch0 : Ref sig .tc).ty.Contents (Elt F)) (hg : Filled m c j.val g) :
    Filled m c (j.val + 1) ((gM.access (Rect.unit (s := S1024x1024) off S32x1024.size inb) : View sig .tc _ _ _).write (Elt F) g w Finset.univ) := by
  subst hoff hw
  intro i h1 h2
  have hset : (gM.access (Rect.unit (s := S1024x1024) ![128 * c.val + 32 * j.val, 0] S32x1024.size inb) : View sig .tc _ _ _).set
      = (Rect.unit (s := S1024x1024) ![128 * c.val + 32 * j.val, 0] S32x1024.size inb).set := View.set_slice_whole _ _
  by_cases h : (i 0).val < 128 * c.val + 32 * j.val
  · rw [View.write_of_not_mem]
    · exact hg i h1 h
    · rw [View.setOn_univ, hset, Rect.mem_set_unit]
      intro hm
      have := (hm 0).1
      change 128 * c.val + 32 * j.val ≤ (i 0).val at this
      omega
  · have hc := c.isLt
    have hj := j.isLt
    have hi1 : (i 1).val < 1024 := (i 1).isLt
    let x : S32x1024.Idx := ValueIdx.ix2 ⟨(i 0).val - (128 * c.val + 32 * j.val), by omega⟩ ⟨(i 1).val, hi1⟩
    have hx : (gM.access (Rect.unit (s := S1024x1024) ![128 * c.val + 32 * j.val, 0] S32x1024.size inb) : View sig .tc _ _ _).emb x = i := by
      funext a
      apply Fin.ext
      refine (ValueKit.rect_emb_unit_val _ _ _ _ _).trans ?_
      fin_cases a
      · show 128 * c.val + 32 * j.val + ((i 0).val - (128 * c.val + 32 * j.val)) = (i 0).val
        omega
      · show 0 + (i 1).val = (i 1).val
        omega
    rw [← hx, View.write_emb_of_mem _ _ (Finset.mem_univ _), hx]
    have hc' : (⟨(i 0).val / 128, Nat.div_lt_of_lt_mul (i 0).isLt⟩ : Dev nD) = c := Fin.ext (by show (i 0).val / 128 = c.val; omega)
    have hj' : (⟨(i 0).val % 128 / 32, Nat.div_lt_of_lt_mul (Nat.mod_lt _ (Nat.zero_lt_succ 127))⟩ : Fin 4) = j :=
      Fin.ext (by show (i 0).val % 128 / 32 = j.val; omega)
    unfold full
    rw [hc', hj']
    refine congrArg (rows m c j) (funext fun a => Fin.ext ?_)
    fin_cases a
    · show (i 0).val - (128 * c.val + 32 * j.val) = (i 0).val % 32
      omega
    · rfl

/-- With all four stored, the block holds the gathered buffer's rows. -/
theorem filled_blk (c : Dev nD) (g) (h : Filled m c 4 g) : ∀ i ∈ (blkM c).view.set, g i = full m i := fun i hi => by
  have := (mem_blk c i).mp hi
  exact h i (by omega) (by omega)

/-! ## Shares of the buffer -/

/-- A buffer cut in one part and seven others. -/
theorem pts_cut {ℓ : Loc nD τ sig} (f : Buf (Elt F) ℓ) (A : Finset (Idx ℓ)) (B : Fin 7 → Finset (Idx ℓ))
    (hu : Finset.univ = A ∪ Finset.univ.biUnion B) (hA : ∀ k, Disjoint A (B k)) (hB : ∀ k k', k ≠ k' → Disjoint (B k) (B k')) :
    (ℓ ↦{fullShare} f : sProp 𝕄) = iprop((ℓ ↦[A]{fullShare} f) ∗ bigSep Finset.univ fun k => ℓ ↦[B k]{fullShare} f) := by
  have hd : Disjoint A (Finset.univ.biUnion B) := (Finset.disjoint_biUnion_right _ _ _).mpr fun k _ => hA k
  rw [hu, ← pointsTo_biUnion Finset.univ B fun k _ k' _ h => hB k k' h]
  exact BI.equiv_iff.mp ⟨(pointsTo_union hd).1, (pointsTo_union hd).2⟩

/-- A buffer's elements at one share are the same elements at `n + 1` smaller ones. -/
theorem pts_shares {ℓ : Loc nD τ sig} {I : Finset (Idx ℓ)} (f : Buf (Elt F) ℓ) (n : ℕ) (q : PosShare TreeShare) :
    (ℓ ↦[I]{q} f : sProp 𝕄) = bigSep Finset.univ fun k : Fin (n + 1) => ℓ ↦[I]{Ring.sharesN (n + 1) q k} f := by
  rw [bigSep_univ_eq_bigSepL (List.finRange (n + 1)) (List.toFinset_finRange _).symm (List.nodup_finRange _)]
  exact BI.equiv_iff.mp ⟨(Ring.pointsTo_nths f n q).1, (Ring.pointsTo_nths f n q).2⟩

/-- The elements of device `d`'s block, in the buffer of device `c`. -/
def blkSet (c d : Dev nD) : Finset (Idx ((c : Thread nD τ).loc cc0_scratch0)) := (blkM d).view.set

theorem blkSet_disjoint (c d d' : Dev nD) (h : d ≠ d') : Disjoint (blkSet c d) (blkSet c d') :=
  Finset.disjoint_left.mpr fun i h1 h2 => h (Fin.ext (((mem_blk d i).mp h1).symm.trans ((mem_blk d' i).mp h2)))

theorem blkSet_cover (c : Dev nD) : Finset.univ = blkSet c c ∪ Finset.univ.biUnion fun k => blkSet c (back c k) := by
  refine (Finset.eq_univ_iff_forall.mpr fun i => ?_).symm
  rcases eq_or_back c ⟨(i 0).val / 128, Nat.div_lt_of_lt_mul (i 0).isLt⟩ with h | ⟨k, h⟩
  · exact Finset.mem_union_left _ ((mem_blk c i).mpr (congrArg Fin.val h))
  · exact Finset.mem_union_right _ (Finset.mem_biUnion.mpr ⟨k, Finset.mem_univ _, (mem_blk _ i).mpr (congrArg Fin.val h)⟩)

/-- Device `d`'s block in the buffer of device `c`, held at a share. -/
def blkPts (c d : Dev nD) (q : PosShare TreeShare) (f : Buf (Elt F) ((c : Thread nD τ).loc cc0_scratch0)) : sProp 𝕄 :=
  ((c : Thread nD τ).loc cc0_scratch0) ↦[blkSet c d]{q} f

instance blkPts_storable (c d : Dev nD) (q f) : BI.Storable (upEmb : UEmb _ 𝕄) (blkPts (F := F) c d q f) := by
  unfold blkPts; infer_instance

theorem blkPts_eq (c d : Dev nD) (q) (f : Buf (Elt F) ((blkM d).view.loc (c : Thread nD τ))) :
    (blkPts c d q f : sProp 𝕄) = ((blkM d).view.loc (c : Thread nD τ) ↦[(blkM d).view.set]{q} f) := rfl

theorem blkPts_congr (c d : Dev nD) (q) {f g : Buf (Elt F) ((c : Thread nD τ).loc cc0_scratch0)} (h : ∀ i ∈ blkSet c d, f i = g i) :
    (blkPts c d q f : sProp 𝕄) = blkPts c d q g := pointsTo_congr h

/-- The buffer is `c`'s own block and those of the seven devices before it. -/
theorem buf_split (c : Dev nD) (f : Buf (Elt F) ((c : Thread nD τ).loc cc0_scratch0)) :
    (((c : Thread nD τ).loc cc0_scratch0) ↦{fullShare} f : sProp 𝕄)
      = iprop(blkPts c c fullShare f ∗ bigSep Finset.univ fun k : Fin 7 => blkPts c (back c k) fullShare f) :=
  pts_cut f (blkSet c c) (fun k => blkSet c (back c k)) (blkSet_cover c) (fun k => blkSet_disjoint c _ _ (back_ne k c).symm)
    (fun k k' h => blkSet_disjoint c _ _ fun e => h (back_inj c e))

/-- The share of its own block that device `c` lends to its copy number `k`. -/
def part (k : Fin 7) : PosShare TreeShare := Ring.sharesN 7 fullShare k

theorem blk_parts (c : Dev nD) (f : Buf (Elt F) ((c : Thread nD τ).loc cc0_scratch0)) :
    (blkPts c c fullShare f : sProp 𝕄) = bigSep Finset.univ fun k : Fin 7 => blkPts c c (part k) f :=
  pts_shares f 6 fullShare

/-- A copy of `d`'s block, from a buffer holding `f`, leaves `f` there. -/
theorem copied (d : Dev nD) (fd f : (cc0_scratch0 : Ref sig .tc).ty.Contents (Elt F)) :
    ∀ i ∈ (blkM d).view.set, (blkM d).view.write (Elt F) fd ((blkM d).view.read (Elt F) f) Finset.univ i = f i := fun i hi => by
  rw [View.write_read_eq_piecewise]
  exact Finset.piecewise_eq_of_mem _ _ _ hi

end Cert.KernelIdeal.Gather

end
-- ==== Proof.RunIdeal.Schedule.lean ====
/- The rounds of the all-gather's cells: who pays what into which semaphore, what each payment hands over, what a
   device owes at launch, and why each wait is allowed. -/
module

public import proofs.«01_k».proof.Proof.RunIdeal.Contents

@[expose] public section

noncomputable section

namespace Cert.KernelIdeal.Gather

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Payments -/

/-- Signal `k` into `d`'s barrier lends `d` its own block of the sender's buffer. -/
def barPay (d : Dev nD) (k : Fin 7) : sProp 𝕄 := iprop(∃ f, blkPts (back d k) d fullShare f)
/-- Copy `k` reaching `d` brings the block of the device it came from. -/
def recvPay (d : Dev nD) (k : Fin 7) : sProp 𝕄 := blkPts d (back d k) fullShare (full m)
/-- Copy `k` leaving `d` gives back the share of its own block it read. -/
def sendPay (d : Dev nD) (k : Fin 7) : sProp 𝕄 := blkPts d d (part k) (full m)

/-- What a transfer's semaphore hands over, by its number: `4 + k` for send `k`, `11 + k` for receive `k`. -/
def dmaPay (d : Dev nD) (q : DmaSem sig) : sProp 𝕄 :=
  if 11 ≤ q.val then recvPay m d ⟨(q.val - 11) % 7, Nat.mod_lt _ (Nat.zero_lt_succ 6)⟩
  else sendPay m d ⟨(q.val - 4) % 7, Nat.mod_lt _ (Nat.zero_lt_succ 6)⟩

/-- The duties of a cell at round 0: seven on a barrier, one on a transfer's semaphore. -/
def semDuties : SemLoc sig → Finset (Fin 7)
  | .reg s => if s = barS then Finset.univ else ∅
  | .dma q => if 4 ≤ q.val then {0} else ∅

def semAmount : SemLoc sig → ℕ
  | .reg _ => 1
  | .dma _ => N

def semPay (d : Dev nD) (k : Fin 7) : SemLoc sig → sProp 𝕄
  | .reg _ => barPay d k
  | .dma q => dmaPay m d q

/-- One round. -/
def sched : Rounds.Schedule (GSem nD τ sig) (Fin 7) 𝕄 where
  duties g r := if r = 0 ∧ g.1.2 = .tc then semDuties g.2 else ∅
  unitless _ := False
  amount g _ _ := semAmount g.2
  payload g _ k := semPay m g.1.1 k g.2
  amount_pos g _ _ _ := by
    rcases g with ⟨t, s | q⟩
    · exact Nat.one_pos
    · exact N_pos

instance sched_storable (g : GSem nD τ sig) (r : ℕ) (k : Fin 7) : BI.Storable (upEmb : UEmb _ 𝕄) ((sched (F := F) m).payload g r k) := by
  show BI.Storable upEmb (semPay m g.1.1 k g.2)
  rcases g with ⟨t, s | q⟩
  · show BI.Storable upEmb (barPay t.1 k)
    unfold barPay; infer_instance
  · show BI.Storable upEmb (dmaPay m t.1 q)
    unfold dmaPay recvPay sendPay
    split <;> infer_instance

section Sched
variable (c : Dev nD) (k : Fin 7)

theorem duties_bar : (sched (F := F) m).duties (barCell c) 0 = Finset.univ := rfl
theorem duties_zero (sm : SemLoc sig) : (sched (F := F) m).duties ((c : Thread nD τ), sm) 0 = semDuties sm := by
  dsimp only [sched]; exact if_pos ⟨rfl, rfl⟩
theorem duties_send : (sched (F := F) m).duties (sendCell c k) 0 = {0} :=
  (duties_zero m c _).trans (if_pos (Nat.le_add_right 4 k.val))
theorem duties_recv : (sched (F := F) m).duties (recvCell c k) 0 = {0} :=
  (duties_zero m c _).trans (if_pos (Nat.le_trans (show 4 ≤ 11 by decide) (Nat.le_add_right 11 k.val)))
theorem duties_later (g : GSem nD τ sig) (r : ℕ) (hr : 1 ≤ r) : (sched (F := F) m).duties g r = ∅ :=
  if_neg fun h => by have := h.1; omega

theorem expect_bar : (sched (F := F) m).expect (barCell c) 0 = 7 := rfl
theorem expect_send : (sched (F := F) m).expect (sendCell c k) 0 = N := by
  unfold Schedule.expect Schedule.amountOf; rw [duties_send, Finset.sum_singleton]; rfl
theorem expect_recv : (sched (F := F) m).expect (recvCell c k) 0 = N := by
  unfold Schedule.expect Schedule.amountOf; rw [duties_recv, Finset.sum_singleton]; rfl

theorem payload_bar : (sched (F := F) m).payload (barCell c) 0 k = barPay c k := rfl
theorem payload_send (d : Fin 7) : (sched (F := F) m).payload (sendCell c k) 0 d = sendPay m c k := by fin_cases k <;> rfl
theorem payload_recv (d : Fin 7) : (sched (F := F) m).payload (recvCell c k) 0 d = recvPay m c k := by fin_cases k <;> rfl

/-- Everything a round hands its owner. -/
theorem rest_bar : bigSep ((sched (F := F) m).duties (barCell c) 0 \ ∅) (fun d => (sched (F := F) m).payload (barCell c) 0 d)
    = bigSep Finset.univ fun k => barPay c k := by rw [Finset.sdiff_empty, duties_bar]; rfl
theorem rest_send : bigSep ((sched (F := F) m).duties (sendCell c k) 0 \ ∅) (fun d => (sched (F := F) m).payload (sendCell c k) 0 d) = sendPay m c k := by
  rw [Finset.sdiff_empty, duties_send, bigSep_singleton, payload_send]
theorem rest_recv : bigSep ((sched (F := F) m).duties (recvCell c k) 0 \ ∅) (fun d => (sched (F := F) m).payload (recvCell c k) 0 d) = recvPay m c k := by
  rw [Finset.sdiff_empty, duties_recv, bigSep_singleton, payload_recv]

end Sched

/-! ## What a device owes -/

/-- The credit of the copies in the list; -/
def owedR (c : Dev nD) : List (Fin 7) → CellTallies nD τ sig Unit
  | [] => 0
  | k :: l => owedR c l + tallyAt (recvCell (peer c k) k) () N
/-- and, before them, of the signals in the list. -/
def owedB (c : Dev nD) : List (Fin 7) → CellTallies nD τ sig Unit
  | [] => owedR c [0, 1, 2, 3, 4, 5, 6]
  | k :: l => owedB c l + tallyAt (barCell (peer c k)) () 1
def O₀ (c : Dev nD) : CellTallies nD τ sig Unit := owedB c [0, 1, 2, 3, 4, 5, 6]

theorem tally_pos {g g' : GSem nD τ sig} {n : ℕ} {u : Unit} (h : 0 < (tallyAt g' () n : CellTallies nD τ sig Unit) g u) : g = g' := by
  by_contra hn
  rw [tallyAt_apply, if_neg fun h' => hn h'.1] at h
  exact Nat.lt_irrefl 0 h

theorem owedR_pos {c : Dev nD} {g : GSem nD τ sig} {u : Unit} : ∀ {l : List (Fin 7)}, 0 < owedR c l g u → ∃ k, g = recvCell (peer c k) k
  | [], h => absurd h (Nat.lt_irrefl 0)
  | k :: l, h => by
    unfold owedR at h
    rw [Pi.add_apply, Finsupp.add_apply] at h
    rcases Nat.add_pos_iff_pos_or_pos.mp h with h | h
    · exact owedR_pos h
    · exact ⟨k, tally_pos h⟩

theorem owedB_pos {c : Dev nD} {g : GSem nD τ sig} {u : Unit} :
    ∀ {l : List (Fin 7)}, 0 < owedB c l g u → (∃ k, g = recvCell (peer c k) k) ∨ ∃ k, g = barCell (peer c k)
  | [], h => .inl (owedR_pos h)
  | k :: l, h => by
    unfold owedB at h
    rw [Pi.add_apply, Finsupp.add_apply] at h
    rcases Nat.add_pos_iff_pos_or_pos.mp h with h | h
    · exact owedB_pos h
    · exact .inr ⟨k, tally_pos h⟩

/-! ## Levels: a barrier below the receives, the rest below both -/

def L (g : GSem nD τ sig) : Finset Unit := if g.1.2 = .tc then {()} else ∅
def lv (g : GSem nD τ sig) (_ : Unit) : ℕ := match g.2 with
  | .reg _ => 1
  | .dma q => if 11 ≤ q.val then 2 else 0

theorem L_of_ne (g : GSem nD τ sig) (h : g.1.2 ≠ .tc) : L g = ∅ := if_neg h
theorem L_tc (c : Dev nD) (sm : SemLoc sig) : () ∈ L ((c : Thread nD τ), sm) := by rw [L, if_pos rfl]; exact Finset.mem_singleton_self _
theorem lv_recv (c : Dev nD) (k : Fin 7) : lv (recvCell c k) () = 2 := if_pos (Nat.le_add_right 11 k.val)

/-- Waiting on a staging semaphore, with all owed. -/
theorem mayWait_stage (c : Dev nD) (q : DmaSem sig) (hq : ¬ 11 ≤ q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact L_tc _ _)
      (fun g u hg => ?_) (fun p hp => by rw [Finset.mem_singleton.mp hp]; exact Nat.le_of_eq (if_neg hq)) (fun g u hg => ?_)
    · rcases owedB_pos hg with ⟨k, rfl⟩ | ⟨k, rfl⟩ <;> exact L_tc _ _
    · rcases owedB_pos hg with ⟨k, rfl⟩ | ⟨k, rfl⟩
      · exact (lv_recv _ _).symm ▸ (by decide)
      · exact Nat.one_pos
  · rw [MayWait_zero]; iintro -; iempintro

/-- Waiting on the barrier, with only copies owed. -/
theorem mayWait_bar (c : Dev nD) (l : List (Fin 7)) : (levAts L lv : sProp 𝕄) ⊢ MayWait (c : Thread nD τ) (.reg barS) () (owedR c l) :=
  MayOwe.of_cut (L := L) (lev := lv) 1 (fun p hp => by rw [Finset.mem_singleton.mp hp]; exact L_tc _ _)
    (fun g u hg => by obtain ⟨k, rfl⟩ := owedR_pos hg; exact L_tc _ _)
    (fun p hp => by rw [Finset.mem_singleton.mp hp]; exact Nat.le_refl 1)
    (fun g u hg => by obtain ⟨k, rfl⟩ := owedR_pos hg; exact (lv_recv _ _).symm ▸ (by decide))

/-! ## The cells' invariants and round marks, for all devices -/

def records (K : Dev nD × Fin 15 → ℕ) : sProp 𝕄 :=
  iprop((bigSep Finset.univ fun ck : Dev nD × Fin 15 => cellInv ER (sched m) (K ck) (kcell ck))
    ∗ bigSep Finset.univ fun ck : Dev nD × Fin 15 => reached ER (kcell ck) 0)

instance records_persistent (K : Dev nD × Fin 15 → ℕ) : BI.Persistent (records m K) := by unfold records; infer_instance

theorem inv_at (K : Dev nD × Fin 15 → ℕ) (ck : Dev nD × Fin 15) (g : GSem nD τ sig) (hg : kcell ck = g) :
    (records m K : sProp 𝕄) ⊢ cellInv ER (sched m) (K ck) g := by
  subst hg
  have h : (bigSep Finset.univ fun ck : Dev nD × Fin 15 => (cellInv ER (sched m) (K ck) (kcell ck) : sProp 𝕄)) ⊢ cellInv ER (sched m) (K ck) (kcell ck) :=
    bigSep_elim (Finset.mem_univ ck)
  unfold records
  iintro ⟨H, -⟩
  iapply h; iexact H

theorem reached_at (K : Dev nD × Fin 15 → ℕ) (ck : Dev nD × Fin 15) (g : GSem nD τ sig) (hg : kcell ck = g) :
    (records m K : sProp 𝕄) ⊢ reached ER g 0 := by
  subst hg
  have h : (bigSep Finset.univ fun ck : Dev nD × Fin 15 => (reached ER (kcell ck) 0 : sProp 𝕄)) ⊢ reached ER (kcell ck) 0 :=
    bigSep_elim (Finset.mem_univ ck)
  unfold records
  iintro ⟨-, H⟩
  iapply h; iexact H

end Cert.KernelIdeal.Gather

end
-- ==== Proof.RunIdeal.Steps.lean ====
/- The steps of the all-gather, each proved once for any of the seven peers: a signal, the wait on the barrier, a copy,
   the wait for a copy to arrive, the wait for one to have left. -/
module

public import proofs.«01_k».proof.Proof.RunIdeal.Schedule

@[expose] public section

noncomputable section

namespace Cert.KernelIdeal.Gather

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Seven steps, one after the other -/

/-- Of seven resources the first `n` in their state after, the rest in their state before. -/
def mix (n : ℕ) (A B : Fin 7 → sProp 𝕄) : sProp 𝕄 := bigSep Finset.univ fun k => if k.val < n then B k else A k

theorem mix_zero (A B : Fin 7 → sProp 𝕄) : (mix 0 A B : sProp 𝕄) = bigSep Finset.univ A :=
  bigSep_congr fun k _ => if_neg (Nat.not_lt_zero _)

theorem mix_seven (A B : Fin 7 → sProp 𝕄) : (mix 7 A B : sProp 𝕄) = bigSep Finset.univ B :=
  bigSep_congr fun k _ => if_pos k.isLt

/-- The `k`-th is taken in its state before and returned in its state after. -/
theorem mix_step (A B : Fin 7 → sProp 𝕄) (k : Fin 7) :
    (mix k.val A B : sProp 𝕄) ⊢ iprop(A k ∗ (B k -∗ mix (k.val + 1) A B)) := by
  unfold mix
  rw [bigSep_univ_at (fun j : Fin 7 => if j.val < k.val then B j else A j) k,
    bigSep_univ_at (fun j : Fin 7 => if j.val < k.val + 1 then B j else A j) k,
    if_neg (Nat.lt_irrefl _), if_pos (Nat.lt_succ_self _),
    bigSep_congr (s := Finset.univ.erase k) (Φ := fun j : Fin 7 => if j.val < k.val + 1 then B j else A j)
      (Ψ := fun j : Fin 7 => if j.val < k.val then B j else A j) fun j hj => by
        have hne : j.val ≠ k.val := fun e => (Finset.mem_erase.mp hj).1 (Fin.ext e)
        by_cases h : j.val < k.val
        · rw [if_pos h, if_pos (Nat.lt_succ_of_lt h)]
        · rw [if_neg h, if_neg (by omega)]]
  iintro ⟨HA, HR⟩
  isplitl [HA]; · iexact HA
  iintro HB
  isplitl [HB] <;> iassumption

/-- What a device owes, whatever it has waited for. -/
def owing (c : Dev nD) (O : CellTallies nD τ sig Unit) : sProp 𝕄 := iprop(∃ W, owes (c : Thread nD τ) O W)

variable (K : Dev nD × Fin 15 → ℕ)

/-! ## The signals -/

/-- For its `k`-th signal a device spends the duty's token and lends a block of its buffer. -/
def sigA (c : Dev nD) (k : Fin 7) : sProp 𝕄 := iprop(dutyTok ER (barCell (peer c k)) 0 k ∗ ∃ f, blkPts c (peer c k) fullShare f)
def none7 (k : Fin 7) : sProp 𝕄 := iprop(emp)

theorem step_signal (c n : Dev nD) (k : Fin 7) (i i' : ℕ) (hi : i = k.val) (hi' : i' = k.val + 1) (l : List (Fin 7)) (hn : n = peer c k) (a : ℕ) (ha : 1 = a)
    {α : Type} {Q : α → sProp 𝕄} {kt : PUnit → Prog (TpuEff nD τ sig (Elt F) Λ₀ .tc) α} :
    iprop(records m K ∗ owing c (owedB c (k :: l)) ∗ mix i (sigA c) none7)
      ⊢ iprop(((owing c (owedB c l) ∗ mix i' (sigA c) none7) -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (n : Thread nD τ) barS a) kt) Q) := by
  subst hn ha hi hi'
  unfold owing
  iintro ⟨#HI, ⟨%W, HO⟩, HM⟩ Hk
  ihave HM := (mix_step (sigA c) none7 k) $$ HM
  icases HM with ⟨HA, HB⟩
  unfold sigA
  icases HA with ⟨Ht, Hb⟩
  iapply (Rounds.wp_signal 𝒱₀ ER (sched m) (c : Thread nD τ) none (dst := (peer c k : Thread nD τ)) (κ := K (peer c k, 0))
      (d := k) (by rw [duties_bar]; exact Finset.mem_univ _) rfl () (owedB c l) rfl) $$ [HO Ht Hb]
  · isplitr; · iapply (inv_at m K (peer c k, 0) _ (kcell_bar _)); iexact HI
    isplitl [HO]; · iexact HO
    isplitl [Ht]; · iexact Ht
    isplitl [Hb]; · rw [payload_bar]; unfold barPay; rw [back_peer]; iexact Hb
    iapply (reached_at m K (peer c k, 0) _ (kcell_bar _)); iexact HI
  iintro HO
  iapply Hk
  isplitl [HO]; · iexists W; iexact HO
  iapply HB
  unfold none7; iempintro

/-! ## The wait on the barrier -/

theorem step_barrier (c : Dev nD) (a : ℕ) (ha : 7 = a) {α : Type} {Q : α → sProp 𝕄} {kt : PUnit → Prog (TpuEff nD τ sig (Elt F) Λ₀ .tc) α} :
    iprop(records m K ∗ levAts L lv ∗ owing c (owedB c []) ∗ cred (tallyAt (barCell c) () 7) ∗ atPos ER (barCell c) 0 ∅ 0)
      ⊢ iprop(((owing c (owedR c [0, 1, 2, 3, 4, 5, 6]) ∗ semVal (barCell c) 0 ∗ bigSep Finset.univ fun k => barPay c k)
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS a) kt) Q) := by
  subst ha
  unfold owing
  iintro ⟨#HI, #Hlev, ⟨%W, HO⟩, Hc, Hat⟩ Hk
  iapply (Rounds.wp_wait_rest_token 𝒱₀ ER (sched m) (c : Thread nD τ) none (κ := K (c, 0))
      (wpE_semWait_eq 𝒱₀ (c : Thread nD τ) none Set.univ) (Set.mem_univ _) () (O := owedR c [0, 1, 2, 3, 4, 5, 6]) (W := W) (R := 0) (m := 0) (T := ∅)
      (by rw [expect_bar])) $$ [HO Hc Hat]
  · isplitr; · iapply (inv_at m K (c, 0) _ (kcell_bar _)); iexact HI
    isplitl [Hc]; · iexact Hc
    isplitl [HO]; · iexact HO
    isplitr; · iapply (mayWait_bar c _); iexact Hlev
    iexact Hat
  iintro ⟨HO, Hat, -, Hpay⟩
  ihave Hp := (Entails.of_eq (rest_bar m c)) $$ Hpay
  imod (Rounds.cell_close ER (sched m) (Set.mem_univ (K (c, 0))) (fun h => h) (R := 0 + 1) (duties_later m (barCell c))) $$ [Hat] with Hz
  · isplitr; · iapply (inv_at m K (c, 0) _ (kcell_bar _)); iexact HI
    iexact Hat
  iapply Hk
  isplitl [HO]; · iexists _; iexact HO
  isplitl [Hz] <;> iassumption

/-! ## The copies -/

/-- For its `k`-th copy a device spends the two duties' tokens, lends a share of its block and writes where it was lent to; -/
def sendA (c : Dev nD) (k : Fin 7) : sProp 𝕄 :=
  iprop(dutyTok ER (sendCell c k) 0 0 ∗ dutyTok ER (recvCell (peer c k) k) 0 0 ∗ blkPts c c (part k) (full m) ∗ ∃ f, blkPts (peer c k) c fullShare f)
/-- it may then wait for the copy to have left. -/
def sendB (c : Dev nD) (k : Fin 7) : sProp 𝕄 := cred (tallyAt (sendCell c k) () N)

theorem step_send (c n : Dev nD) (k : Fin 7) (i i' : ℕ) (hi : i = k.val) (hi' : i' = k.val + 1) (l : List (Fin 7)) (hn : n = peer c k) (q₁ q₂ : DmaSem sig) (h₁ : q₁ = sendS k) (h₂ : q₂ = recvS k)
    {hsc : (blkM c : Memref sig (Dev.tc n : Thread nD τ).2.kind .vmem S128x1024 .bf16).view.ref.isScScratch = false}
    {hsrc hdst : (blkM c).view.WordExact}
    {hsem : DmaTarget.Typed .vmem (.dma q₂) (.remote (Dev.tc n : Thread nD τ) (blkM c : Memref sig .tc .vmem S128x1024 .bf16) (.dma q₁) hsc)}
    {α : Type} {Q : α → sProp 𝕄} {kt : PUnit → Prog (TpuEff nD τ sig (Elt F) Λ₀ .tc) α} :
    iprop(records m K ∗ owing c (owedR c (k :: l)) ∗ mix i (sendA m c) (sendB c))
      ⊢ iprop(((owing c (owedR c l) ∗ mix i' (sendA m c) (sendB c)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (blkM c) (.remote (Dev.tc n : Thread nD τ) (blkM c) (.dma q₁) hsc) (.dma q₂) hsrc hdst hsem) kt) Q) := by
  subst hn h₁ h₂ hi hi'
  unfold owing
  iintro ⟨#HI, ⟨%W, HO⟩, HM⟩ Hk
  ihave HM := (mix_step (sendA m c) (sendB c) k) $$ HM
  icases HM with ⟨HA, HB⟩
  unfold sendA
  icases HA with ⟨Hts, Htr, Hs, ⟨%fd, Hd⟩⟩
  ihave Hs := (Entails.of_eq (blkPts_eq c c (part k) (full m))) $$ Hs
  ihave Hd := (Entails.of_eq (blkPts_eq (peer c k) c fullShare fd)) $$ Hd
  iapply (Rounds.wp_send_pointsTo 𝒱₀ ER (sched m) (c : Thread nD τ) none (κ₁ := K (c, sIx k)) (κ₂ := K (peer c k, rIx k))
      (r₁ := 0) (r₂ := 0) (d₁ := 0) (d₂ := 0) (fd := fd)
      (by rw [duties_send]; exact Finset.mem_singleton_self _) (by rw [duties_recv]; exact Finset.mem_singleton_self _)
      () () N rfl rfl rfl (owedR c l) rfl (W := W)
      (by rw [payload_send]; exact BI.Entails.refl _)
      (by
        rw [payload_recv]; unfold recvPay; rw [back_peer, ← blkPts_eq]
        exact Entails.of_eq (blkPts_congr (peer c k) c fullShare (copied c fd (full m))))) $$ [HO Hts Htr Hs Hd]
  · isplitr; · iapply (inv_at m K (c, sIx k) _ (kcell_send _ _)); iexact HI
    isplitr; · iapply (inv_at m K (peer c k, rIx k) _ (kcell_recv _ _)); iexact HI
    isplitl [Hs]; · iexact Hs
    isplitl [Hd]; · iexact Hd
    isplitl [HO]; · iexact HO
    isplitl [Hts]; · iexact Hts
    isplitr; · iapply (reached_at m K (c, sIx k) _ (kcell_send _ _)); iexact HI
    isplitl [Htr]; · iexact Htr
    iapply (reached_at m K (peer c k, rIx k) _ (kcell_recv _ _)); iexact HI
  iintro ⟨Hc, HO⟩
  iapply Hk
  isplitl [HO]; · iexists W; iexact HO
  iapply HB
  unfold sendB; iexact Hc

/-! ## The waits on the transfers' semaphores -/

/-- For the `k`-th wait on a receive a device has the credit and its place at the cell; -/
def rcvA (c : Dev nD) (k : Fin 7) : sProp 𝕄 := iprop(cred (tallyAt (recvCell c k) () N) ∗ atPos ER (recvCell c k) 0 ∅ 0)
/-- it gets the block that was copied to it, and the semaphore at zero. -/
def rcvB (c : Dev nD) (k : Fin 7) : sProp 𝕄 := iprop(semVal (recvCell c k) 0 ∗ recvPay m c k)
/-- For the `k`-th wait on a send the same; -/
def sntA (c : Dev nD) (k : Fin 7) : sProp 𝕄 := iprop(cred (tallyAt (sendCell c k) () N) ∗ atPos ER (sendCell c k) 0 ∅ 0)
/-- it gets its share of its block back. -/
def sntB (c : Dev nD) (k : Fin 7) : sProp 𝕄 := iprop(semVal (sendCell c k) 0 ∗ sendPay m c k)

/-- Blocks of 128 rows of the buffer all carry the same credit. -/
theorem credit_eq (off off' : Fin 2 → ℕ) (inb : ∀ a, off a + S128x1024.size a ≤ S1024x1024.size a) (inb' : ∀ a, off' a + S128x1024.size a ≤ S1024x1024.size a) (h h') :
    (gM.slice (Rect.unit (s := S1024x1024) off S128x1024.size inb) h).view.dmaCredit
      = (gM.slice (Rect.unit (s := S1024x1024) off' S128x1024.size inb') h').view.dmaCredit := rfl

/-- A wait on a transfer's semaphore, nothing being owed: the round's payload, and the semaphore at zero. -/
theorem step_wait (c : Dev nD) (i : Fin 15) (q : DmaSem sig) (hq : kcell (c, i) = ((c : Thread nD τ), .dma q)) (P : sProp 𝕄)
    (hN : (sched (F := F) m).expect ((c : Thread nD τ), .dma q) 0 = N)
    (hP : bigSep ((sched (F := F) m).duties ((c : Thread nD τ), .dma q) 0 \ ∅) (fun d => (sched (F := F) m).payload ((c : Thread nD τ), .dma q) 0 d) = P)
    {s d : Memref sig .tc .vmem S128x1024 .bf16} (hd : d.view.dmaCredit = N) {hsrc : s.view.WordExact} {hdst : d.view.WordExact}
    {α : Type} {Q : α → sProp 𝕄} {kt : PUnit → Prog (TpuEff nD τ sig (Elt F) Λ₀ .tc) α} :
    iprop(records m K ∗ owing c 0 ∗ cred (tallyAt ((c : Thread nD τ), .dma q) () N) ∗ atPos ER ((c : Thread nD τ), .dma q) 0 ∅ 0)
      ⊢ iprop(((owing c 0 ∗ semVal ((c : Thread nD τ), .dma q) 0 ∗ P) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q s d hsrc hdst) kt) Q) := by
  unfold owing
  iintro ⟨#HI, ⟨%W, HO⟩, Hc, Hat⟩ Hk
  iapply (Rounds.wp_wait_rest_token 𝒱₀ ER (sched m) (c : Thread nD τ) none (κ := K (c, i))
      (wpE_waitDma2_eq 𝒱₀ (c : Thread nD τ) none Set.univ) (Set.mem_univ _) () (O := 0) (W := W) (R := 0) (m := 0) (T := ∅)
      (by rw [hN, hd, Nat.zero_add])) $$ [HO Hc Hat]
  · isplitr; · iapply (inv_at m K (c, i) _ hq); iexact HI
    isplitl [Hc]; · rw [hd]; iexact Hc
    isplitl [HO]; · iexact HO
    isplitr; · rw [MayWait_zero]; iempintro
    iexact Hat
  iintro ⟨HO, Hat, -, Hpay⟩
  ihave Hp := (Entails.of_eq hP) $$ Hpay
  imod (Rounds.cell_close ER (sched m) (Set.mem_univ (K (c, i))) (fun h => h) (R := 0 + 1) (duties_later m ((c : Thread nD τ), .dma q))) $$ [Hat] with Hz
  · isplitr; · iapply (inv_at m K (c, i) _ hq); iexact HI
    iexact Hat
  iapply Hk
  isplitl [HO]; · iexists _; iexact HO
  isplitl [Hz] <;> iassumption

theorem step_recv (c : Dev nD) (k : Fin 7) (i i' : ℕ) (hi : i = k.val) (hi' : i' = k.val + 1) (q : DmaSem sig) (hq : q = recvS k) {s : Memref sig .tc .vmem S128x1024 .bf16}
    (off : Fin 2 → ℕ) (inb : ∀ a, off a + S128x1024.size a ≤ S1024x1024.size a) (hr)
    {hsrc : s.view.WordExact} {hdst : (gM.slice (Rect.unit (s := S1024x1024) off S128x1024.size inb) hr).view.WordExact}
    {α : Type} {Q : α → sProp 𝕄} {kt : PUnit → Prog (TpuEff nD τ sig (Elt F) Λ₀ .tc) α} :
    iprop(records m K ∗ owing c 0 ∗ mix i (rcvA c) (rcvB m c))
      ⊢ iprop(((owing c 0 ∗ mix i' (rcvA c) (rcvB m c)) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q s (gM.slice (Rect.unit (s := S1024x1024) off S128x1024.size inb) hr) hsrc hdst) kt) Q) := by
  subst hq hi hi'
  iintro ⟨#HI, HO, HM⟩ Hk
  ihave HM := (mix_step (rcvA c) (rcvB m c) k) $$ HM
  icases HM with ⟨HA, HB⟩
  unfold rcvA
  icases HA with ⟨Hc, Hat⟩
  iapply (step_wait m K c (rIx k) (recvS k) (kcell_recv _ _) (recvPay m c k) (expect_recv m c k) (rest_recv m c k) (credit_eq off (k0_off2 0) inb (k0_off2_inb 0) hr (fun _ => rfl))) $$ [HO Hc Hat]
  · isplitr; · iexact HI
    isplitl [HO]; · iexact HO
    isplitl [Hc] <;> iassumption
  iintro ⟨HO, Hp⟩
  iapply Hk
  isplitl [HO]; · iexact HO
  iapply HB
  unfold rcvB; iexact Hp

theorem step_sent (c : Dev nD) (k : Fin 7) (i i' : ℕ) (hi : i = k.val) (hi' : i' = k.val + 1) (q : DmaSem sig) (hq : q = sendS k) {s : Memref sig .tc .vmem S128x1024 .bf16}
    (off : Fin 2 → ℕ) (inb : ∀ a, off a + S128x1024.size a ≤ S1024x1024.size a) (hr)
    {hsrc : s.view.WordExact} {hdst : (gM.slice (Rect.unit (s := S1024x1024) off S128x1024.size inb) hr).view.WordExact}
    {α : Type} {Q : α → sProp 𝕄} {kt : PUnit → Prog (TpuEff nD τ sig (Elt F) Λ₀ .tc) α} :
    iprop(records m K ∗ owing c 0 ∗ mix i (sntA c) (sntB m c))
      ⊢ iprop(((owing c 0 ∗ mix i' (sntA c) (sntB m c)) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q s (gM.slice (Rect.unit (s := S1024x1024) off S128x1024.size inb) hr) hsrc hdst) kt) Q) := by
  subst hq hi hi'
  iintro ⟨#HI, HO, HM⟩ Hk
  ihave HM := (mix_step (sntA c) (sntB m c) k) $$ HM
  icases HM with ⟨HA, HB⟩
  unfold sntA
  icases HA with ⟨Hc, Hat⟩
  iapply (step_wait m K c (sIx k) (sendS k) (kcell_send _ _) (sendPay m c k) (expect_send m c k) (rest_send m c k) (credit_eq off (k0_off2 0) inb (k0_off2_inb 0) hr (fun _ => rfl))) $$ [HO Hc Hat]
  · isplitr; · iexact HI
    isplitl [HO]; · iexact HO
    isplitl [Hc] <;> iassumption
  iintro ⟨HO, Hp⟩
  iapply Hk
  isplitl [HO]; · iexact HO
  iapply HB
  unfold sntB; iexact Hp

/-! ## Loads and stores by the values they give -/

theorem load_val (c : Dev nD) {cs : CoreSpace} {s : Shape} {e : EltTy} {mr : Memref sig .tc cs s e} {r : LoadRect s} {hl : mr.view.LoadsAt r}
    (f : Buf (Elt F) (mr.view.loc (c : Thread nD τ))) (v : r.shape.Idx → Elt F e) (hv : mr.view.readAt (Elt F) r f = v)
    {α : Type} {Q : α → sProp 𝕄} {kt : (r.shape.Idx → Elt F e) → Prog (TpuEff nD τ sig (Elt F) Λ₀ .tc) α} :
    (mr.view.loc (c : Thread nD τ) ↦[Finset.univ]{fullShare} f : sProp 𝕄)
      ⊢ iprop(((mr.view.loc (c : Thread nD τ) ↦[Finset.univ]{fullShare} f) -∗ wp frame (wpE (defs₀ (F := F)) 𝒱₀ (c : Thread nD τ) none) Set.univ (kt v) Q)
          -∗ wp frame (wpE (defs₀ (F := F)) 𝒱₀ (c : Thread nD τ) none) Set.univ (.op (.load mr r hl) kt) Q) :=
  hv ▸ wp_load 𝒱₀ (c : Thread nD τ) none Set.univ (m := mr) (Finset.subset_univ _)

theorem store_val (c : Dev nD) {cs : CoreSpace} {s : Shape} {e : EltTy} {mr : Memref sig .tc cs s e} {r : Rect s} {w : r.shape.Idx → Elt F e}
    {hx : (mr.access r).Stores Finset.univ} {hm : (Finset.univ : Finset r.shape.Idx) = Finset.univ ∨ ∀ a, r.stride a = 1}
    (f g : Buf (Elt F) ((mr.access r).loc (c : Thread nD τ))) (hg : (mr.access r).write (Elt F) f w Finset.univ = g)
    {α : Type} {Q : α → sProp 𝕄} {kt : PUnit → Prog (TpuEff nD τ sig (Elt F) Λ₀ .tc) α} :
    ((mr.access r).loc (c : Thread nD τ) ↦[Finset.univ]{fullShare} f : sProp 𝕄)
      ⊢ iprop((((mr.access r).loc (c : Thread nD τ) ↦[Finset.univ]{fullShare} g) -∗ wp frame (wpE (defs₀ (F := F)) 𝒱₀ (c : Thread nD τ) none) Set.univ (kt ⟨⟩) Q)
          -∗ wp frame (wpE (defs₀ (F := F)) 𝒱₀ (c : Thread nD τ) none) Set.univ (.op (.store mr r w Finset.univ hx hm) kt) Q) :=
  hg ▸ wp_store 𝒱₀ (c : Thread nD τ) none Set.univ (m := mr) (Mk := Finset.univ) (Finset.subset_univ _)

/-- The gather buffer with the first `n` experts' rows in it. -/
def bufFilled (c : Dev nD) (n : ℕ) : sProp 𝕄 :=
  iprop(∃ g : Buf (Elt F) ((c : Thread nD τ).loc cc0_scratch0), ⌜Filled m c n g⌝ ∗ (((c : Thread nD τ).loc cc0_scratch0) ↦{fullShare} g))

/-- One expert: its weights loaded, its rows computed and stored. -/
theorem step_rows (c : Dev nD) (j : Fin 4) (i i' : ℕ) (hi : i = j.val) (hi' : i' = j.val + 1) (wo : Fin 3 → ℕ) (wb : ∀ a, wo a + S1x512x1024.size a ≤ S4x512x1024.size a)
    (hw : wM.view.readAt (Elt F) (Rect.unit (s := S4x512x1024) wo S1x512x1024.size wb).toLoadRect (wstg m c) = wld m c j)
    (off : Fin 2 → ℕ) (inb : ∀ a, off a + S32x1024.size a ≤ S1024x1024.size a) (hoff : off = ![128 * c.val + 32 * j.val, 0])
    (p : Vec F S1x512x1024 .bf16 → FVec F S32x1024 .bf16) (hp : p (wld m c j) = rows m c j)
    {hl : wM.view.LoadsAt (Rect.unit (s := S4x512x1024) wo S1x512x1024.size wb).toLoadRect}
    {hl' : gM.view.LoadsAt (Rect.unit (s := S1024x1024) off S32x1024.size inb).toLoadRect}
    {hx : (gM.access (Rect.unit (s := S1024x1024) off S32x1024.size inb)).Stores Finset.univ}
    {hm : (Finset.univ : Finset (Rect.unit (s := S1024x1024) off S32x1024.size inb).shape.Idx) = Finset.univ ∨ ∀ a, (Rect.unit (s := S1024x1024) off S32x1024.size inb).stride a = 1}
    {α : Type} {Q : α → sProp 𝕄} {kt : Vec F S1x512x1024 .bf16 → PUnit → Prog (TpuEff nD τ sig (Elt F) Λ₀ .tc) α} :
    iprop((((c : Thread nD τ).loc cc0_stg2_0) ↦{fullShare} wstg m c) ∗ bufFilled m c i)
      ⊢ iprop((((((c : Thread nD τ).loc cc0_stg2_0) ↦{fullShare} wstg m c) ∗ bufFilled m c i')
              -∗ wp frame (wpE (defs₀ (F := F)) 𝒱₀ (c : Thread nD τ) none) Set.univ (kt (wld m c j) ⟨⟩) Q)
          -∗ wp frame (wpE (defs₀ (F := F)) 𝒱₀ (c : Thread nD τ) none) Set.univ
              (.op (.load wM (Rect.unit (s := S4x512x1024) wo S1x512x1024.size wb).toLoadRect hl) fun w =>
                .op (.load gM (Rect.unit (s := S1024x1024) off S32x1024.size inb).toLoadRect hl') fun _ =>
                  .op (.store gM (Rect.unit (s := S1024x1024) off S32x1024.size inb) (p w) Finset.univ hx hm) (kt w)) Q) := by
  subst hi hi'
  unfold bufFilled
  iintro ⟨Hw, ⟨%g, %hg, Hg⟩⟩ Hk
  iapply (load_val c (mr := wM) (wstg m c) (wld m c j) hw) $$ Hw; iintro Hw
  iapply (load_val c (mr := gM) g _ rfl) $$ Hg; iintro Hg
  iapply (store_val c (mr := gM) (r := Rect.unit (s := S1024x1024) off S32x1024.size inb) (w := p (wld m c j)) g _ rfl) $$ Hg; iintro Hg
  iapply Hk
  isplitl [Hw]; · iexact Hw
  iexists _
  isplitr
  · ipureintro; exact filled_step m c j off inb hoff (p (wld m c j)) hp g hg
  iexact Hg

end Cert.KernelIdeal.Gather

end
-- ==== Proof.RunIdeal.Body.lean ====
/- The kernel's body on one device, run through by the steps of the exchange. -/
module

public import proofs.«01_k».proof.Proof.RunIdeal.Steps

@[expose] public section

noncomputable section

namespace Cert.KernelIdeal.Gather

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat Cfg Window BodyObligation cellOf)

/-! ## What a device starts from and ends with -/

/-- The positions and the tokens that are device `c`'s alone. -/
def linear (c : Dev nD) : sProp 𝕄 :=
  iprop((atPos ER (barCell c) 0 ∅ 0 ∗ (bigSep Finset.univ fun k => atPos ER (sendCell c k) 0 ∅ 0) ∗ bigSep Finset.univ fun k => atPos ER (recvCell c k) 0 ∅ 0)
    ∗ (bigSep Finset.univ fun k => dutyTok ER (barCell (peer c k)) 0 k) ∗ (bigSep Finset.univ fun k => dutyTok ER (sendCell c k) 0 0)
    ∗ bigSep Finset.univ fun k => dutyTok ER (recvCell (peer c k) k) 0 0)

def start (c : Dev nD) : sProp 𝕄 :=
  iprop((∃ K, records m K ∗ linear c) ∗ cred (tallyAt (barCell c) () 7) ∗ (bigSep Finset.univ fun k => cred (tallyAt (recvCell c k) () N)) ∗ levAts L lv)

def bufPts (c : Dev nD) (f : Buf (Elt F) ((c : Thread nD τ).loc cc0_scratch0)) : sProp 𝕄 := ((c : Thread nD τ).loc cc0_scratch0) ↦{fullShare} f

def Φ₀ (c : Dev nD) : sProp 𝕄 := iprop(start m c ∗ ∃ f, bufPts c f)
def Φ₁ (c : Dev nD) : sProp 𝕄 :=
  iprop(bufPts c (full m) ∗ (bigSep Finset.univ fun k => semVal (sendCell c k) 0) ∗ (bigSep Finset.univ fun k => semVal (recvCell c k) 0) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => istg m c
    | ⟨2, _⟩ => wstg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## From one stage of the exchange to the next -/

theorem filled_intro (c : Dev nD) (f : Buf (Elt F) ((c : Thread nD τ).loc cc0_scratch0)) :
    (((c : Thread nD τ).loc cc0_scratch0) ↦{fullShare} f : sProp 𝕄) ⊢ bufFilled m c 0 := by
  unfold bufFilled
  iintro H
  iexists f
  isplitr; · ipureintro; exact filled_zero m c f
  iexact H

theorem back_rev (c : Dev nD) (k : Fin 7) : peer c (Fin.rev k) = back c k := by revert c k; decide

/-- Counted from the device after or from the device before, the peers are the same. -/
theorem peers_back (c : Dev nD) (Ψ : Dev nD → sProp 𝕄) :
    (bigSep Finset.univ fun k : Fin 7 => Ψ (back c k)) = bigSep Finset.univ fun k : Fin 7 => Ψ (peer c k) := by
  rw [bigSep_univ_equiv Fin.revPerm (fun k : Fin 7 => Ψ (peer c k))]
  exact bigSep_congr fun k _ => by rw [Fin.revPerm_apply, back_rev]

theorem sig_intro (c : Dev nD) (f : Buf (Elt F) ((c : Thread nD τ).loc cc0_scratch0)) :
    iprop((bigSep Finset.univ fun k => dutyTok ER (barCell (peer c k)) 0 k) ∗ bigSep Finset.univ fun k : Fin 7 => blkPts c (back c k) fullShare f)
      ⊢ (mix 0 (sigA c) none7 : sProp 𝕄) := by
  rw [mix_zero, peers_back c (fun d => blkPts c d fullShare f), ← bigSep_sep']
  refine bigSep_mono fun k _ => ?_
  unfold sigA
  exact sep_mono_right (exists_intro (Φ := fun f => blkPts c (peer c k) fullShare f) f)

theorem send_intro (c : Dev nD) :
    iprop((bigSep Finset.univ fun k => dutyTok ER (sendCell c k) 0 0) ∗ (bigSep Finset.univ fun k => dutyTok ER (recvCell (peer c k) k) 0 0)
        ∗ blkPts c c fullShare (full m) ∗ bigSep Finset.univ fun k => barPay c k)
      ⊢ (mix 0 (sendA m c) (sendB c) : sProp 𝕄) := by
  have h : (bigSep Finset.univ fun k => (barPay c k : sProp 𝕄)) = bigSep Finset.univ fun k : Fin 7 => iprop(∃ f, blkPts (peer c k) c fullShare f) :=
    peers_back c (fun d => iprop(∃ f, blkPts d c fullShare f))
  rw [mix_zero, h, blk_parts, ← bigSep_sep', ← bigSep_sep', ← bigSep_sep']
  exact bigSep_mono fun k _ => BI.Entails.refl _

theorem recv_intro (c : Dev nD) :
    iprop((bigSep Finset.univ fun k => cred (tallyAt (recvCell c k) () N)) ∗ bigSep Finset.univ fun k => atPos ER (recvCell c k) 0 ∅ 0)
      ⊢ (mix 0 (rcvA c) (rcvB m c) : sProp 𝕄) := by
  rw [mix_zero, ← bigSep_sep']
  exact bigSep_mono fun k _ => BI.Entails.refl _

theorem sent_intro (c : Dev nD) :
    iprop(mix 7 (sendA m c) (sendB c) ∗ bigSep Finset.univ fun k => atPos ER (sendCell c k) 0 ∅ 0)
      ⊢ (mix 0 (sntA c) (sntB m c) : sProp 𝕄) := by
  rw [mix_seven, mix_zero, ← bigSep_sep']
  exact bigSep_mono fun k _ => BI.Entails.refl _

/-- All copies arrived and left: the whole buffer, complete, and the semaphores at zero. -/
theorem exchange_done (c : Dev nD) :
    iprop(mix 7 (rcvA c) (rcvB m c) ∗ mix 7 (sntA c) (sntB m c))
      ⊢ (iprop(bufPts c (full m) ∗ (bigSep Finset.univ fun k => semVal (sendCell c k) 0) ∗ bigSep Finset.univ fun k => semVal (recvCell c k) 0) : sProp 𝕄) := by
  rw [mix_seven, mix_seven]
  unfold rcvB sntB bufPts recvPay sendPay
  rw [bigSep_sep', bigSep_sep', buf_split, blk_parts]
  iintro ⟨⟨Hvr, Hr⟩, Hvs, Hs⟩
  isplitl [Hr Hs]
  · isplitl [Hs] <;> iassumption
  isplitl [Hvs] <;> iassumption

/-! ## The body -/

section Body

variable (K : Dev nD × Fin 15 → ℕ)

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem zero2 : (![0, 0] : Fin 2 → Nat) = fun _ => 0 := funext fun a => by fin_cases a <;> rfl

/-- The staged operands and the result's buffer. -/
def staged (c : Dev nD) : sProp 𝕄 :=
  iprop((((c : Thread nD τ).loc cc0_stg0_0) ↦{fullShare} xstg m c) ∗ (((c : Thread nD τ).loc cc0_stg1_0) ↦{fullShare} istg m c)
    ∗ (((c : Thread nD τ).loc cc0_stg2_0) ↦{fullShare} wstg m c) ∗ ∃ f : Buf (Elt F) ((c : Thread nD τ).loc cc0_stg3_0), ((c : Thread nD τ).loc cc0_stg3_0) ↦{fullShare} f)
/-- The same with the result in it. -/
def produced (c : Dev nD) : sProp 𝕄 :=
  iprop((((c : Thread nD τ).loc cc0_stg0_0) ↦{fullShare} xstg m c) ∗ (((c : Thread nD τ).loc cc0_stg1_0) ↦{fullShare} istg m c)
    ∗ (((c : Thread nD τ).loc cc0_stg2_0) ↦{fullShare} wstg m c) ∗ (((c : Thread nD τ).loc cc0_stg3_0) ↦{fullShare} outAt m c))

set_option maxHeartbeats 400000 in
set_option maxRecDepth 20000 in
/-- The body run through: the operands loaded, the rows computed and stored, the seven signals and the wait for seven, the
    seven copies, the waits for them, the result computed from the whole buffer and stored. -/
theorem body_run (c : Dev nD) (Q : PUnit → sProp 𝕄) :
    iprop((records m K ∗ linear c ∗ cred (tallyAt (barCell c) () 7) ∗ (bigSep Finset.univ fun k => cred (tallyAt (recvCell c k) () N)) ∗ levAts L lv)
        ∗ (∃ f, bufPts c f) ∗ owing c (O₀ c) ∗ staged m c ∗ ((Φ₁ m c ∗ owing c 0 ∗ produced m c) -∗ Q ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Q := by
  simp only [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold staged linear
  iintro ⟨⟨#HI, ⟨⟨HaB, HaS, HaV⟩, HtB, HtS, HtV⟩, HcB, HcV, #Hlev⟩, ⟨%f0, Hg⟩, HO, ⟨Hx, Hi, Hw, ⟨%fo, Hout⟩⟩, Hk⟩
  unfold bufPts
  -- the operands
  iapply (load_val c (mr := iM) (istg m c) _ (Memref.readAt_unit_zero (Elt F) cc0_stg1_0 zero2 _ (istg m c))) $$ Hi; iintro Hi
  iapply (load_val c (mr := xM) (xstg m c) _ (Memref.readAt_unit_zero (Elt F) cc0_stg0_0 zero2 _ (xstg m c))) $$ Hx; iintro Hx
  -- the rows of the four experts
  ihave HF := (filled_intro m c f0) $$ Hg
  iapply (step_rows m c 0 0 1 rfl rfl _ _ rfl _ (k0_off1_inb c 0) (k0_off1_eq c 0) (k0_pay4 (slots m c)) rfl) $$ [Hw HF]
  · isplitl [Hw]; · iexact Hw
    iexact HF
  iintro ⟨Hw, HF⟩
  iapply (step_rows m c 1 1 2 rfl rfl _ _ rfl _ (k0_off1_inb c 1) (k0_off1_eq c 1) (k0_pay5 (slots m c)) rfl) $$ [Hw HF]
  · isplitl [Hw]; · iexact Hw
    iexact HF
  iintro ⟨Hw, HF⟩
  iapply (step_rows m c 2 2 3 rfl rfl _ _ rfl _ (k0_off1_inb c 2) (k0_off1_eq c 2) (k0_pay6 (slots m c)) rfl) $$ [Hw HF]
  · isplitl [Hw]; · iexact Hw
    iexact HF
  iintro ⟨Hw, HF⟩
  iapply (step_rows m c 3 3 4 rfl rfl _ _ rfl _ (k0_off1_inb c 3) (k0_off1_eq c 3) (fun w => k0_pay8 (k0_pay7 (slots m c) w)) rfl) $$ [Hw HF]
  · isplitl [Hw]; · iexact Hw
    iexact HF
  iintro ⟨Hw, HF⟩
  unfold bufFilled
  icases HF with ⟨%g, %hf, Hg⟩
  ihave Hg := (Entails.of_eq (buf_split c g)) $$ Hg
  icases Hg with ⟨Hown, Hoth⟩
  ihave Hown := (Entails.of_eq (blkPts_congr c c fullShare (filled_blk m c g hf))) $$ Hown
  -- the signals
  unfold O₀
  ihave HM := (sig_intro c g) $$ [HtB Hoth]
  · isplitl [HtB] <;> iassumption
  iapply (step_signal m K c ⟨k0_dev1 c, k0_dev1_lt c⟩ 0 0 1 rfl rfl [1, 2, 3, 4, 5, 6] (Fin.ext (k0_dev1_eq c)) _ (by decide)) $$ [HO HM]
  · isplitr; · iexact HI
    isplitl [HO]; · iexact HO
    iexact HM
  iintro ⟨HO, HM⟩
  iapply (step_signal m K c ⟨k0_dev2 c, k0_dev2_lt c⟩ 1 1 2 rfl rfl [2, 3, 4, 5, 6] (Fin.ext (k0_dev2_eq c)) _ (by decide)) $$ [HO HM]
  · isplitr; · iexact HI
    isplitl [HO]; · iexact HO
    iexact HM
  iintro ⟨HO, HM⟩
  iapply (step_signal m K c ⟨k0_dev3 c, k0_dev3_lt c⟩ 2 2 3 rfl rfl [3, 4, 5, 6] (Fin.ext (k0_dev3_eq c)) _ (by decide)) $$ [HO HM]
  · isplitr; · iexact HI
    isplitl [HO]; · iexact HO
    iexact HM
  iintro ⟨HO, HM⟩
  iapply (step_signal m K c ⟨k0_dev4 c, k0_dev4_lt c⟩ 3 3 4 rfl rfl [4, 5, 6] (Fin.ext (k0_dev4_eq c)) _ (by decide)) $$ [HO HM]
  · isplitr; · iexact HI
    isplitl [HO]; · iexact HO
    iexact HM
  iintro ⟨HO, HM⟩
  iapply (step_signal m K c ⟨k0_dev5 c, k0_dev5_lt c⟩ 4 4 5 rfl rfl [5, 6] (Fin.ext (k0_dev5_eq c)) _ (by decide)) $$ [HO HM]
  · isplitr; · iexact HI
    isplitl [HO]; · iexact HO
    iexact HM
  iintro ⟨HO, HM⟩
  iapply (step_signal m K c ⟨k0_dev6 c, k0_dev6_lt c⟩ 5 5 6 rfl rfl [6] (Fin.ext (k0_dev6_eq c)) _ (by decide)) $$ [HO HM]
  · isplitr; · iexact HI
    isplitl [HO]; · iexact HO
    iexact HM
  iintro ⟨HO, HM⟩
  iapply (step_signal m K c ⟨k0_dev7 c, k0_dev7_lt c⟩ 6 6 7 rfl rfl [] (Fin.ext (k0_dev7_eq c)) _ (by decide)) $$ [HO HM]
  · isplitr; · iexact HI
    isplitl [HO]; · iexact HO
    iexact HM
  iintro ⟨HO, HM⟩
  -- the wait for seven
  iapply (step_barrier m K c _ (by decide)) $$ [HO HcB HaB]
  · isplitr; · iexact HI
    isplitr; · iexact Hlev
    isplitl [HO]; · iexact HO
    isplitl [HcB] <;> iassumption
  iintro ⟨HO, HzB, Hpay⟩
  -- the copies
  ihave HM := (send_intro m c) $$ [HtS HtV Hown Hpay]
  · isplitl [HtS]; · iexact HtS
    isplitl [HtV]; · iexact HtV
    isplitl [Hown] <;> iassumption
  iapply (step_send m K c ⟨k0_dev8 c, k0_dev8_lt c⟩ 0 0 1 rfl rfl [1, 2, 3, 4, 5, 6] (Fin.ext (k0_dev8_eq c)) _ _ rfl rfl) $$ [HO HM]
  · isplitr; · iexact HI
    isplitl [HO]; · iexact HO
    iexact HM
  iintro ⟨HO, HM⟩
  iapply (step_send m K c ⟨k0_dev9 c, k0_dev9_lt c⟩ 1 1 2 rfl rfl [2, 3, 4, 5, 6] (Fin.ext (k0_dev9_eq c)) _ _ rfl rfl) $$ [HO HM]
  · isplitr; · iexact HI
    isplitl [HO]; · iexact HO
    iexact HM
  iintro ⟨HO, HM⟩
  iapply (step_send m K c ⟨k0_dev10 c, k0_dev10_lt c⟩ 2 2 3 rfl rfl [3, 4, 5, 6] (Fin.ext (k0_dev10_eq c)) _ _ rfl rfl) $$ [HO HM]
  · isplitr; · iexact HI
    isplitl [HO]; · iexact HO
    iexact HM
  iintro ⟨HO, HM⟩
  iapply (step_send m K c ⟨k0_dev11 c, k0_dev11_lt c⟩ 3 3 4 rfl rfl [4, 5, 6] (Fin.ext (k0_dev11_eq c)) _ _ rfl rfl) $$ [HO HM]
  · isplitr; · iexact HI
    isplitl [HO]; · iexact HO
    iexact HM
  iintro ⟨HO, HM⟩
  iapply (step_send m K c ⟨k0_dev12 c, k0_dev12_lt c⟩ 4 4 5 rfl rfl [5, 6] (Fin.ext (k0_dev12_eq c)) _ _ rfl rfl) $$ [HO HM]
  · isplitr; · iexact HI
    isplitl [HO]; · iexact HO
    iexact HM
  iintro ⟨HO, HM⟩
  iapply (step_send m K c ⟨k0_dev13 c, k0_dev13_lt c⟩ 5 5 6 rfl rfl [6] (Fin.ext (k0_dev13_eq c)) _ _ rfl rfl) $$ [HO HM]
  · isplitr; · iexact HI
    isplitl [HO]; · iexact HO
    iexact HM
  iintro ⟨HO, HM⟩
  iapply (step_send m K c ⟨k0_dev14 c, k0_dev14_lt c⟩ 6 6 7 rfl rfl [] (Fin.ext (k0_dev14_eq c)) _ _ rfl rfl) $$ [HO HM]
  · isplitr; · iexact HI
    isplitl [HO]; · iexact HO
    iexact HM
  iintro ⟨HO, HM⟩
  ihave HS := (sent_intro m c) $$ [HM HaS]
  · isplitl [HM] <;> iassumption
  ihave HR := (recv_intro m c) $$ [HcV HaV]
  · isplitl [HcV] <;> iassumption
  -- the copies that reach the device
  iapply (step_recv m K c 0 0 1 rfl rfl _ rfl _ _ _) $$ [HO HR]
  · isplitr; · iexact HI
    isplitl [HO]; · iexact HO
    iexact HR
  iintro ⟨HO, HR⟩
  iapply (step_recv m K c 1 1 2 rfl rfl _ rfl _ _ _) $$ [HO HR]
  · isplitr; · iexact HI
    isplitl [HO]; · iexact HO
    iexact HR
  iintro ⟨HO, HR⟩
  iapply (step_recv m K c 2 2 3 rfl rfl _ rfl _ _ _) $$ [HO HR]
  · isplitr; · iexact HI
    isplitl [HO]; · iexact HO
    iexact HR
  iintro ⟨HO, HR⟩
  iapply (step_recv m K c 3 3 4 rfl rfl _ rfl _ _ _) $$ [HO HR]
  · isplitr; · iexact HI
    isplitl [HO]; · iexact HO
    iexact HR
  iintro ⟨HO, HR⟩
  iapply (step_recv m K c 4 4 5 rfl rfl _ rfl _ _ _) $$ [HO HR]
  · isplitr; · iexact HI
    isplitl [HO]; · iexact HO
    iexact HR
  iintro ⟨HO, HR⟩
  iapply (step_recv m K c 5 5 6 rfl rfl _ rfl _ _ _) $$ [HO HR]
  · isplitr; · iexact HI
    isplitl [HO]; · iexact HO
    iexact HR
  iintro ⟨HO, HR⟩
  iapply (step_recv m K c 6 6 7 rfl rfl _ rfl _ _ _) $$ [HO HR]
  · isplitr; · iexact HI
    isplitl [HO]; · iexact HO
    iexact HR
  iintro ⟨HO, HR⟩
  -- the copies that leave it
  iapply (step_sent m K c 0 0 1 rfl rfl _ rfl _ _ _) $$ [HO HS]
  · isplitr; · iexact HI
    isplitl [HO]; · iexact HO
    iexact HS
  iintro ⟨HO, HS⟩
  iapply (step_sent m K c 1 1 2 rfl rfl _ rfl _ _ _) $$ [HO HS]
  · isplitr; · iexact HI
    isplitl [HO]; · iexact HO
    iexact HS
  iintro ⟨HO, HS⟩
  iapply (step_sent m K c 2 2 3 rfl rfl _ rfl _ _ _) $$ [HO HS]
  · isplitr; · iexact HI
    isplitl [HO]; · iexact HO
    iexact HS
  iintro ⟨HO, HS⟩
  iapply (step_sent m K c 3 3 4 rfl rfl _ rfl _ _ _) $$ [HO HS]
  · isplitr; · iexact HI
    isplitl [HO]; · iexact HO
    iexact HS
  iintro ⟨HO, HS⟩
  iapply (step_sent m K c 4 4 5 rfl rfl _ rfl _ _ _) $$ [HO HS]
  · isplitr; · iexact HI
    isplitl [HO]; · iexact HO
    iexact HS
  iintro ⟨HO, HS⟩
  iapply (step_sent m K c 5 5 6 rfl rfl _ rfl _ _ _) $$ [HO HS]
  · isplitr; · iexact HI
    isplitl [HO]; · iexact HO
    iexact HS
  iintro ⟨HO, HS⟩
  iapply (step_sent m K c 6 6 7 rfl rfl _ rfl _ _ _) $$ [HO HS]
  · isplitr; · iexact HI
    isplitl [HO]; · iexact HO
    iexact HS
  iintro ⟨HO, HS⟩
  ihave HD := (exchange_done m c) $$ [HR HS]
  · isplitl [HR] <;> iassumption
  unfold bufPts
  icases HD with ⟨Hg, HzS, HzV⟩
  -- the result
  iapply (load_val c (mr := gM) (full m) _ (Memref.readAt_unit_zero (Elt F) cc0_scratch0 zero2 _ (full m))) $$ Hg; iintro Hg
  iapply (load_val c (mr := oM) fo _ rfl) $$ Hout; iintro Hout
  iapply (store_val c (mr := oM) (r := Rect.unit (s := S1024x1024) ![0, 0] S1024x1024.size inb_S1024x1024_S1024x1024_0_0) fo (outAt m c) (Memref.write_access_unit_zero_univ (Elt F) cc0_stg3_0 zero2 _ _ _)) $$ Hout; iintro Hout
  rw [wp_ret]; imodintro
  iapply Hk
  unfold Φ₁ bufPts produced
  isplitl [Hg HzS HzV HzB]
  · isplitl [Hg]; · iexact Hg
    isplitl [HzS]; · iexact HzS
    isplitl [HzV] <;> iassumption
  isplitl [HO]; · iexact HO
  isplitl [Hx]; · iexact Hx
  isplitl [Hi]; · iexact Hi
  isplitl [Hw] <;> iassumption

/-! ## The pipeline's obligation -/

theorem fetch0 (w : Fin cfg0.W) (hw : w.val < 3) (t : Fin cfg0.N) : (cfg0.win w).fetch t = true := by
  rw [fin_N0 t]; revert hw; revert w; decide

/-- What the pipeline hands the body: its state, what it owes, the four windows' buffers. -/
def atEntry (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
/-- And what it takes back. -/
def atExit (c : Dev nD) : sProp 𝕄 :=
  iprop(Φ₁ m c ∗ (dats m 0 c).owesAt () t0_0.succ
    ∗ stg c cc0_stg0_0 (xstg m c) ∗ stg c cc0_stg1_0 (istg m c) ∗ stg c cc0_stg2_0 (wstg m c) ∗ stg c cc0_stg3_0 (outAt m c))

theorem before_eq (c : Dev nD) (w : Fin 4) (hw : w.val < 3) (d) : (dats m 0 c).before w t0_0 d = (dats m 0 c).fetched w t0_0 d := by
  unfold Dat.before; rw [if_pos (fetch0 w hw t0_0)]

set_option maxRecDepth 8000 in
theorem body_obligation (c : Dev nD) : BodyObligation (dats (F := F) m 0 c) (defs₀ (F := F)) 𝒱₀ () Set.univ := fun t => by
  rw [fin_N0 t, bigSep_W0, bigSep_W0]
  simp only [owns_stg]
  show atEntry m c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => atExit m c)
  unfold atEntry Φ₀ start Dat.owesAt Pipeline.owesWithin
  iintro ⟨⟨⟨⟨%K, HI, Hl⟩, Hrest⟩, Hscr⟩, ⟨%W, %hW, HO⟩, ⟨%d0, %g0, %h0, Hx⟩, ⟨%d1, %g1, %h1, Hi⟩, ⟨%d2, %g2, %h2, Hw⟩, ⟨%d3, %g3, %h3, Hout⟩⟩
  have e0 : g0 = xstg m c := h0.trans ((before_eq m c 0 (by decide) d0).trans rfl)
  have e1 : g1 = istg m c := h1.trans ((before_eq m c 1 (by decide) d1).trans rfl)
  have e2 : g2 = wstg m c := h2.trans ((before_eq m c 2 (by decide) d2).trans rfl)
  subst e0 e1 e2
  iapply (body_run m K c fun _ => atExit m c)
  isplitl [HI Hl Hrest]
  · isplitl [HI]; · iexact HI
    isplitl [Hl]; · iexact Hl
    iexact Hrest
  isplitl [Hscr]; · iexact Hscr
  isplitl [HO]; · unfold owing; iexists W; iexact HO
  isplitl [Hx Hi Hw Hout]
  · unfold staged
    isplitl [Hx]; · iexact Hx
    isplitl [Hi]; · iexact Hi
    isplitl [Hw]; · iexact Hw
    iexists g3; iexact Hout
  unfold owing produced atExit Dat.owesAt Pipeline.owesWithin
  iintro ⟨HΦ, ⟨%W', HO⟩, Hx, Hi, Hw, Hout⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

end Body

end Cert.KernelIdeal.Gather

end
-- ==== Proof.RunIdeal.Launch.lean ====
/- The launch's resources for the all-gather: its cells, its tokens, the cells opened, the tokens dealt to the devices
   that pay with them. -/
module

public import proofs.«01_k».proof.Proof.RunIdeal.Body

@[expose] public section

noncomputable section

namespace Cert.KernelIdeal.Gather

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat Cfg Window BodyObligation cellOf)

/-! ## Cells and tokens at launch -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × Fin 15 → GSem nD τ sig) := by
  rintro ⟨c, k⟩ ⟨c', k'⟩ h
  have h1 : c = c' := congrArg (fun g : GSem nD τ sig => g.1.1) h
  have h2 : k = k' := csem_injective (congrArg Prod.snd h)
  rw [h1, h2]

def gatherCells : Finset (GSem nD τ sig) := Finset.univ.map ⟨kcell, kcell_injective⟩

/-- The token `k` of a device's barrier, of its send `k`, of its receive `k`. -/
def tokOf (x : Dev nD × Fin 3 × Fin 7) : GSem nD τ sig × ℕ × Fin 7 := match x.2.1 with
  | 0 => (barCell x.1, 0, x.2.2)
  | 1 => (sendCell x.1 x.2.2, 0, 0)
  | 2 => (recvCell x.1 x.2.2, 0, 0)

/-- The semaphore and the duty of a token, apart from the device. -/
def tokPart (y : Fin 3 × Fin 7) : SemLoc sig × Fin 7 := match y.1 with
  | 0 => (.reg barS, y.2)
  | 1 => (.dma (sendS y.2), 0)
  | 2 => (.dma (recvS y.2), 0)

theorem tokPart_injective : Function.Injective tokPart := by decide

theorem tokOf_parts (x : Dev nD × Fin 3 × Fin 7) : (tokOf x).1.1.1 = x.1 ∧ ((tokOf x).1.2, (tokOf x).2.2) = tokPart x.2 := by
  obtain ⟨c, i, k⟩ := x
  fin_cases i <;> exact ⟨rfl, rfl⟩

theorem tokOf_injective : Function.Injective tokOf := fun x y h =>
  Prod.ext ((tokOf_parts x).1.symm.trans ((congrArg (fun z => z.1.1.1) h).trans (tokOf_parts y).1))
    (tokPart_injective ((tokOf_parts x).2.symm.trans ((congrArg (fun z => (z.1.2, z.2.2)) h).trans (tokOf_parts y).2)))

def gatherToks : Finset (GSem nD τ sig × ℕ × Fin 7) := Finset.univ.map ⟨tokOf, tokOf_injective⟩

def u₀ : UU := (initOf (Pipeline.cells cfgs cellOf_inj) (Pipeline.launchToks cfgs cellOf_inj), initOf gatherCells gatherToks)

/-- The tokens of device `c`'s own cells. -/
def toks (c : Dev nD) : sProp 𝕄 :=
  iprop((bigSep Finset.univ fun k : Fin 7 => dutyTok ER (barCell c) 0 k) ∗ (bigSep Finset.univ fun k => dutyTok ER (sendCell c k) 0 0)
    ∗ bigSep Finset.univ fun k => dutyTok ER (recvCell c k) 0 0)

/-- What the launch deals device `c`, -/
def G (c : Dev nD) : sProp 𝕄 :=
  iprop((bigSep Finset.univ fun k : Fin 15 => roundState ER (sched m) (kcell (c, k)) 0)
    ∗ (bigSep Finset.univ fun k : Fin 15 => iprop(atPos ER (kcell (c, k)) 0 ∅ 0 ∗ reached ER (kcell (c, k)) 0)) ∗ toks c)
/-- and what it has once all cells are open. -/
def G' (c : Dev nD) : sProp 𝕄 := iprop(∃ K, records m K ∗ linear c)

theorem seven_assoc (a b c d e f g R : sProp 𝕄) : iprop(a ∗ b ∗ c ∗ d ∗ e ∗ f ∗ g ∗ R) = iprop((a ∗ b ∗ c ∗ d ∗ e ∗ f ∗ g) ∗ R) := by
  refine BI.Entails.antisymm (?_ : (_ : sProp 𝕄) ⊢ _) (?_ : (_ : sProp 𝕄) ⊢ _)
  · iintro ⟨H1, H2, H3, H4, H5, H6, H7, HR⟩
    isplitr [HR]
    · isplitl [H1]; · iexact H1
      isplitl [H2]; · iexact H2
      isplitl [H3]; · iexact H3
      isplitl [H4]; · iexact H4
      isplitl [H5]; · iexact H5
      isplitl [H6]; · iexact H6
      iexact H7
    iexact HR
  · iintro ⟨⟨H1, H2, H3, H4, H5, H6, H7⟩, HR⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HR

theorem fin15 (Ψ : Fin 15 → sProp 𝕄) :
    bigSep Finset.univ Ψ = iprop(Ψ 0 ∗ (bigSep Finset.univ fun k : Fin 7 => Ψ (sIx k)) ∗ bigSep Finset.univ fun k : Fin 7 => Ψ (rIx k)) := by
  rw [bigSep_univ_eq_bigSepL [0, 1, 2, 3, 4, 5, 6, 7, 8, 9, 10, 11, 12, 13, 14] (by decide) (by decide),
    bigSep_univ_eq_bigSepL [0, 1, 2, 3, 4, 5, 6] (by decide) (by decide), bigSep_univ_eq_bigSepL [0, 1, 2, 3, 4, 5, 6] (by decide) (by decide)]
  exact congrArg (fun R => iprop(Ψ 0 ∗ R)) (seven_assoc _ _ _ _ _ _ _ _)

theorem cells_split (c : Dev nD) (Ψ : GSem nD τ sig → sProp 𝕄) :
    (bigSep Finset.univ fun k : Fin 15 => Ψ (kcell (c, k)))
      = iprop(Ψ (barCell c) ∗ (bigSep Finset.univ fun k : Fin 7 => Ψ (sendCell c k)) ∗ bigSep Finset.univ fun k : Fin 7 => Ψ (recvCell c k)) := by
  rw [fin15]
  simp only [kcell_bar, kcell_send, kcell_recv]

theorem fund : BI.own (ER (initOf gatherCells gatherToks)) ⊢ (|==> bigSep Finset.univ (G m) : sProp 𝕄) := by
  have hX (Ψ : GSem nD τ sig → sProp 𝕄) : bigSep gatherCells Ψ = bigSep Finset.univ fun c : Dev nD => bigSep Finset.univ fun k : Fin 15 => Ψ (kcell (c, k)) := by
    unfold gatherCells; rw [bigSep_map, bigSep_univ_prod]; rfl
  have hT : bigSep gatherToks (fun x => (dutyTok ER x.1 x.2.1 x.2.2 : sProp 𝕄)) = bigSep Finset.univ fun c : Dev nD => toks c := by
    unfold gatherToks; rw [bigSep_map, bigSep_univ_prod]
    refine bigSep_congr fun c _ => ?_
    rw [bigSep_univ_prod, bigSep_univ_eq_bigSepL [0, 1, 2] (by decide) (by decide), bigSepL_cons_cons, bigSepL_cons_cons, bigSepL_singleton]
    rfl
  iintro HX
  imod (Rounds.fund ER (sched m) gatherCells gatherToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells opened -/

theorem ownSems_eq (c : Dev nD) : (Pipeline.ownSems0 (Ix := Unit) (Name := ℕ) (U := UU) (Lvl := ℕ) (Val := Elt F) (τ := τ) osem c : sProp 𝕄)
    = bigSep Finset.univ fun i : Fin 14 => semVal ((c : Thread nD τ), osem i) 0 := rfl

theorem unscopedSems_eq (c : Dev nD) : (unscopedSems0 c : sProp 𝕄) = semVal (barCell c) 0 := by
  unfold unscopedSems0; rw [bigSep_eq_bigSepL_of_eq [SemLoc.reg barS] (by decide) (by decide)]; rfl

/-- All fifteen semaphores: the launch's unscoped one and the kernel's fourteen. -/
theorem sems_eq (c : Dev nD) :
    (bigSep Finset.univ fun k : Fin 15 => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems_eq, unscopedSems_eq, bigSep_univ_eq_bigSepL [0, 1, 2, 3, 4, 5, 6, 7, 8, 9, 10, 11, 12, 13, 14] (by decide) (by decide),
    bigSep_univ_eq_bigSepL [0, 1, 2, 3, 4, 5, 6, 7, 8, 9, 10, 11, 12, 13] (by decide) (by decide)]
  rfl

theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Fin 15 => semVal (kcell (c, k)) 0) ∗ bigSep Finset.univ fun k : Fin 15 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat] <;> iassumption

/-! ## The tokens dealt to those who pay -/

/-- A device with a peer's number, to that peer with the number. -/
def dealing : Dev nD × Fin 7 ≃ Dev nD × Fin 7 :=
  ⟨fun x => (peer x.1 x.2, x.2), fun x => (back x.1 x.2, x.2), fun x => Prod.ext (back_peer _ _) rfl, fun x => Prod.ext (peer_back _ _) rfl⟩

theorem deal (T : Dev nD → Fin 7 → sProp 𝕄) :
    (bigSep Finset.univ fun c : Dev nD => bigSep Finset.univ fun k : Fin 7 => T c k) = bigSep Finset.univ fun c : Dev nD => bigSep Finset.univ fun k : Fin 7 => T (peer c k) k := by
  rw [← bigSep_univ_prod (fun ck : Dev nD × Fin 7 => T ck.1 ck.2), bigSep_univ_equiv dealing (fun ck : Dev nD × Fin 7 => T ck.1 ck.2), bigSep_univ_prod]
  rfl

theorem toks_dealt (A : Dev nD → sProp 𝕄) (hA : ∀ c, A c = iprop(atPos ER (barCell c) 0 ∅ 0 ∗ (bigSep Finset.univ fun k => atPos ER (sendCell c k) 0 ∅ 0) ∗ bigSep Finset.univ fun k => atPos ER (recvCell c k) 0 ∅ 0)) :
    iprop((bigSep Finset.univ A) ∗ bigSep Finset.univ fun c : Dev nD => (toks c : sProp 𝕄)) ⊢ bigSep Finset.univ fun c : Dev nD => (linear c : sProp 𝕄) := by
  have e : (bigSep Finset.univ fun c : Dev nD => (linear c : sProp 𝕄)) = bigSep Finset.univ fun c : Dev nD => iprop(A c
      ∗ (bigSep Finset.univ fun k => dutyTok ER (barCell (peer c k)) 0 k) ∗ (bigSep Finset.univ fun k => dutyTok ER (sendCell c k) 0 0)
      ∗ bigSep Finset.univ fun k => dutyTok ER (recvCell (peer c k) k) 0 0) := bigSep_congr fun c _ => by rw [hA]; rfl
  rw [e]
  unfold toks
  rw [bigSep_sep', bigSep_sep', bigSep_sep', bigSep_sep', bigSep_sep',
    deal (fun c k => (dutyTok ER (barCell c) 0 k : sProp 𝕄)), deal (fun c k => (dutyTok ER (recvCell c k) 0 0 : sProp 𝕄))]

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 15 => iprop(∃ κ : ℕ, cellInv ER (sched m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, HR⟩, Htok⟩
  ihave HK := (BI.bigSep_exists_pi Finset.univ (fun (ck : Dev nD × Fin 15) (κ : ℕ) => (cellInv ER (sched m) κ (kcell ck) : sProp 𝕄))) $$ HI
  icases HK with ⟨%K, HI⟩
  ihave Hl := (toks_dealt (F := F) _ (fun c => cells_split c (fun g => atPos ER g 0 ∅ 0))) $$ [Hat Htok]
  · isplitl [Hat] <;> iassumption
  iapply (show iprop(records m K ∗ bigSep Finset.univ fun c : Dev nD => (linear c : sProp 𝕄)) ⊢ bigSep Finset.univ (G' m) from
    (sep_mono_left (BI.bigSep_of_persistent Finset.univ (records m K))).trans (by
      rw [← bigSep_sep']
      exact bigSep_mono fun c _ => exists_intro (Φ := fun K => iprop(records m K ∗ linear c)) K))
  isplitr [Hl]
  · unfold records; isplitl [HI] <;> iassumption
  iexact Hl

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (regroup m))

end Cert.KernelIdeal.Gather

end
-- ==== Proof.RunIdeal.Run.lean ====
/- The all-gather's run: every execution of @main terminates, with the result's array holding what the pipeline wrote
   back, the arguments unchanged and every counter at zero. -/
module

public import proofs.«01_k».proof.Proof.RunIdeal.Launch

@[expose] public section

noncomputable section

namespace Cert.KernelIdeal.Gather

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat Cfg Window BodyObligation cellOf)

/-! ## The launch credit -/

theorem owed_bar (c : Dev nD) : ∀ l : List (Fin 7), ∑ d : Dev nD, owedB d l (barCell c) () = l.length
  | [] => Finset.sum_eq_zero fun d _ => by
    by_contra h
    obtain ⟨k, hk⟩ := owedR_pos (Nat.pos_of_ne_zero h)
    exact absurd (congrArg Prod.snd hk) (by intro h; cases h)
  | k :: l => by
    unfold owedB
    simp only [Pi.add_apply, Finsupp.add_apply]
    rw [Finset.sum_add_distrib, owed_bar c l, List.length_cons]
    congr 1
    refine (Equiv.sum_comp (shift k) (fun d => (tallyAt (barCell d) () 1 : CellTallies nD τ sig Unit) (barCell c) ())).trans ?_
    rw [Finset.sum_congr rfl fun d _ => tallyAt_apply _ _ _ _ _, Finset.sum_eq_single c, if_pos ⟨rfl, rfl⟩]
    · exact fun d _ hd => if_neg fun h => hd (congrArg (fun g : GSem nD τ sig => g.1.1) h.1).symm
    · exact fun h => absurd (Finset.mem_univ c) h

theorem recv_sem_injective : Function.Injective (fun k : Fin 7 => (SemLoc.dma (recvS k) : SemLoc sig)) := by decide

theorem owed_recv (c : Dev nD) (k : Fin 7) : ∀ l : List (Fin 7), ∑ d : Dev nD, owedR d l (recvCell c k) () = (l.map fun j => if j = k then N else 0).sum
  | [] => Finset.sum_eq_zero fun _ _ => rfl
  | j :: l => by
    unfold owedR
    simp only [Pi.add_apply, Finsupp.add_apply]
    rw [Finset.sum_add_distrib, owed_recv c k l, List.map_cons, List.sum_cons, Nat.add_comm]
    congr 1
    refine (Equiv.sum_comp (shift j) (fun d => (tallyAt (recvCell d j) () N : CellTallies nD τ sig Unit) (recvCell c k) ())).trans ?_
    rw [Finset.sum_congr rfl fun d _ => tallyAt_apply _ _ _ _ _, Finset.sum_eq_single c]
    · by_cases h : j = k
      · subst h; rw [if_pos ⟨rfl, rfl⟩, if_pos rfl]
      · rw [if_neg fun h' => h (recv_sem_injective (congrArg Prod.snd h'.1).symm), if_neg h]
    · exact fun d _ hd => if_neg fun h => hd (congrArg (fun g : GSem nD τ sig => g.1.1) h.1).symm
    · exact fun h => absurd (Finset.mem_univ c) h

theorem owedB_recv (c d : Dev nD) (k : Fin 7) : ∀ l : List (Fin 7), owedB d l (recvCell c k) () = owedR d [0, 1, 2, 3, 4, 5, 6] (recvCell c k) ()
  | [] => rfl
  | j :: l => by
    rw [owedB, Pi.add_apply, Finsupp.add_apply, owedB_recv c d k l, tallyAt_apply, if_neg fun h => ?_, Nat.add_zero]
    exact absurd (congrArg Prod.snd h.1) (by intro h; cases h)

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  exact owed_bar c _

theorem launch_recv (c : Dev nD) (k : Fin 7) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same]
  refine ((Finset.sum_congr rfl fun d _ => owedB_recv c d k _).trans (owed_recv c k _)).trans ?_
  fin_cases k <;> simp

theorem creds (c : Dev nD) :
    (Pipeline.launchCred O₀ c : sProp 𝕄) ⊢ iprop(cred (tallyAt (barCell c) () 7) ∗ bigSep Finset.univ fun k => cred (tallyAt (recvCell c k) () N)) := by
  unfold Pipeline.launchCred
  rw [bigSep_univ_at _ (SemLoc.reg barS), launch_bar]
  refine sep_mono_right ?_
  refine (bigSep_subset (t := Finset.univ.map ⟨fun k : Fin 7 => (SemLoc.dma (recvS k) : SemLoc sig), recv_sem_injective⟩) fun sm h => ?_).trans ?_
  · obtain ⟨k, -, rfl⟩ := Finset.mem_map.mp h
    exact Finset.mem_erase.mpr ⟨(by intro h; cases h), Finset.mem_univ _⟩
  · rw [bigSep_map]
    exact Entails.of_eq (bigSep_congr fun k _ => congrArg cred (launch_recv c k))

/-! ## The launch's side conditions -/

/-- The one array no window stages: the router's weights, held through the run. -/
def heldPts (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ heldPts m c) := by
  rw [Pipeline.unscopedRestP_none, unscopedRest0_eq]
  iintro ⟨Hr, Hlev, Hcr, -, HG⟩
  ihave Hc := (creds (F := F) c) $$ Hcr
  icases Hc with ⟨H1, HN⟩
  imodintro
  unfold start G'
  isplitl [HG H1 HN Hlev]
  · isplitl [HG]; · iexact HG
    isplitl [H1]; · iexact H1
    isplitl [HN]; · iexact HN
    iexact Hlev
  · unfold heldPts; iexact Hr

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufPts
  iintro ⟨Hs, -, Hr⟩
  isplitl [Hs] <;> iassumption

theorem ownSems_split (c : Dev nD) :
    iprop((bigSep Finset.univ fun k => semVal (sendCell c k) 0) ∗ bigSep Finset.univ fun k => semVal (recvCell c k) 0)
      ⊢ (Pipeline.ownSems0 (Ix := Unit) (Name := ℕ) (U := UU) (Lvl := ℕ) (Val := Elt F) (τ := τ) osem c : sProp 𝕄) := by
  rw [ownSems_eq, bigSep_univ_eq_bigSepL ([0, 1, 2, 3, 4, 5, 6, 7, 8, 9, 10, 11, 12, 13] : List (Fin 14)) (by decide) (by decide),
    bigSep_univ_eq_bigSepL [0, 1, 2, 3, 4, 5, 6] (by decide) (by decide), bigSep_univ_eq_bigSepL [0, 1, 2, 3, 4, 5, 6] (by decide) (by decide)]
  exact Entails.of_eq (seven_assoc _ _ _ _ _ _ _ _).symm

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, unscopedSems_eq]
  unfold Φ₁ bufPts
  iintro ⟨Hr, HS, HV, HB⟩
  isplitl [HB]; · iexact HB
  isplitl [HS HV]
  · iapply (ownSems_split (F := F) c)
    isplitl [HS] <;> iassumption
  iexists (full m); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

/-- What a final state holds: the windows' arrays, the router's weights, every counter at zero. -/
def Final (s : MemSt nD τ sig (Elt F)) : Prop :=
  (∀ c : Dev nD, (∀ w : Fin cfg0.W, s.mem ((cfg0.win w).arr.view.loc (c : Thread nD τ)) = finalA m c w)
    ∧ s.mem ((c : Thread nD τ).loc main_arg1) = m ((c : Thread nD τ).loc main_arg1)) ∧ s.sem = fun _ => 0

theorem read_end (c : Dev nD) (s' : Phys nD τ sig (Elt F)) :
    iprop(unscopedSems0 c ∗ heldPts m c ∗ SI s') ⊢ (|={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ SI s') : sProp 𝕄) := by
  unfold heldPts
  iintro ⟨Hu, Hp, HSI⟩
  icombine HSI Hp gives %h
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => h i (Finset.mem_univ i)⟩
  iexact HSI

set_option maxRecDepth 8000 in
theorem run_main : θ_run defs (onTc (τ := τ) (main (F := F))) (s₀ m ρ) (fun r => Final m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := heldPts m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_end m)
    (hQ := fun _ h hs => ⟨fun c => ⟨fun w => (h c).1 w, (h c).2.2.2⟩, sem_eq_zero hs fun c => (h c).2.2.1⟩)

/-- An array only read holds at the end what it held. -/
theorem finalA_in (c : Dev nD) (w : Fin cfg0.W) (hw : w.val < 3) : finalA m c w = m ((cfg0.win w).arr.view.loc (c : Thread nD τ)) := by
  fin_cases w
  · exact (dats m 0 c).arrAt_in 0 rfl _
  · exact (dats m 0 c).arrAt_in 1 rfl _
  · exact (dats m 0 c).arrAt_in 2 rfl _
  · exact absurd hw (by decide)

/-- The result's one block is the whole array: it holds what the body left in the staging buffer. -/
theorem finalA_out (c : Dev nD) : finalA m c 3 = outAt m c := by
  have h : (win0_3.blk (0 : Fin 1)).view.read (Elt F) (finalA m c (3 : Fin 4)) = outAt m c := by
    unfold finalA
    rw [show cfg0.N = ((0 : Fin 1) : Fin cfg0.N).val + 1 from rfl, (dats m 0 c).arrAt_succ (3 : Fin 4) (0 : Fin 1)]
    rw [show (cfg0.win (3 : Fin 4)).flush (0 : Fin 1) = true from by decide, if_pos rfl]
    exact View.read_write_univ _ _
  exact (Memref.read_access_unit_zero (Elt F) main_v1 (funext fun a => by fin_cases a <;> decide) (fun a => by fin_cases a <;> decide) _).symm.trans h

/-- What is staged is the whole argument. -/
theorem xstg_eq (c : Dev nD) : xstg m c = m ((c : Thread nD τ).loc main_arg0) :=
  Memref.read_access_unit_zero (Elt F) main_arg0 (funext fun a => by fin_cases a <;> decide) (fun a => by fin_cases a <;> decide) _
theorem istg_eq (c : Dev nD) : istg m c = m ((c : Thread nD τ).loc main_arg2) :=
  Memref.read_access_unit_zero (Elt F) main_arg2 (funext fun a => by fin_cases a <;> decide) (fun a => by fin_cases a <;> decide) _
theorem wstg_eq (c : Dev nD) : wstg m c = m ((c : Thread nD τ).loc main_arg3) :=
  Memref.read_access_unit_zero (Elt F) main_arg3 (funext fun a => by fin_cases a <;> decide) (fun a => by fin_cases a <;> decide) _

/-- The run read at the buffers of @main: the result, the arguments unchanged, the counters. -/
theorem run_bufs : θ_run defs (onTc (τ := τ) (main (F := F))) (s₀ m ρ) (fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 3).trans (finalA_out m c), ((h.1 c).1 0).trans (finalA_in m c 0 (by decide)), (h.1 c).2,
    ((h.1 c).1 1).trans (finalA_in m c 1 (by decide)), ((h.1 c).1 2).trans (finalA_in m c 2 (by decide))⟩, h.2⟩) (run_main m ρ)

end Cert.KernelIdeal.Gather

end
-- ==== Proof.Value.Route.lean ====
/- The routing in plain numbers: a token's expert, its rank among the tokens of that expert, and the result at a token:
   its row times its expert's matrix if it is among the first 25 of its expert, zero if it is not. -/
module

public import Idealize.ShloMosaic.Lib.ValueIdx
public import Idealize.ShloMosaic.Lib.ValueIdxCore

@[expose] public section

noncomputable section

namespace Cert.Value

open Idealize.ShloMosaic Idealize.ShloMosaic.ValueIdx
open scoped BigOperators

/-- The experts chosen, one 32-bit word for each of 1024 tokens. -/
abbrev Choice := (⟨2, ![1024, 1]⟩ : Shape).Idx → BitVec 32

variable (v : Choice)

/-- The expert token `t` chose, as a number. -/
def expert (t : Fin 1024) : ℕ := (v (ix2 t 0)).toNat

theorem choice_eq (t : Fin 1024) : v (ix2 t 0) = BitVec.ofNat 32 (expert v t) :=
  BitVec.eq_of_toNat_eq (by
    rw [BitVec.toNat_ofNat, Nat.mod_eq_of_lt (show expert v t < 2 ^ 32 from (v (ix2 t 0)).isLt)]; rfl)

/-- Every token chose one of the 32 experts. -/
def Routed : Prop := ∀ t, expert v t < 32

/-- The tokens before `t` that chose the same expert. -/
def earlier (t : Fin 1024) : Finset (Fin 1024) := Finset.univ.filter fun t' => t'.val < t.val ∧ v (ix2 t' 0) = v (ix2 t 0)

/-- How many they are. -/
def rank (t : Fin 1024) : ℕ := (earlier v t).card

theorem rank_lt (t : Fin 1024) : rank v t < 1024 := by
  have h : earlier v t ⊆ Finset.univ.erase t := fun t' h' =>
    Finset.mem_erase.mpr ⟨fun e => by have := (Finset.mem_filter.mp h').2.1; rw [e] at this; omega, Finset.mem_univ _⟩
  have h2 := Finset.card_le_card h
  rw [Finset.card_erase_of_mem (Finset.mem_univ _), Finset.card_univ, Fintype.card_fin] at h2
  unfold rank; omega

/-- A later token of the same expert has a higher rank. -/
theorem rank_lt_rank {t t' : Fin 1024} (h : t.val < t'.val) (he : v (ix2 t 0) = v (ix2 t' 0)) : rank v t < rank v t' := by
  refine Finset.card_lt_card (Finset.ssubset_iff_of_subset (fun a ha => ?_) |>.mpr ⟨t, ?_, ?_⟩)
  · obtain ⟨h1, h2⟩ := (Finset.mem_filter.mp ha).2
    exact Finset.mem_filter.mpr ⟨Finset.mem_univ _, by omega, h2.trans he⟩
  · exact Finset.mem_filter.mpr ⟨Finset.mem_univ _, h, he⟩
  · intro ht
    have := (Finset.mem_filter.mp ht).2.1
    omega

/-- An expert and a rank name one token. -/
theorem token_unique {t t' : Fin 1024} (he : expert v t = expert v t') (hr : rank v t = rank v t') : t = t' := by
  have he' : v (ix2 t 0) = v (ix2 t' 0) := BitVec.eq_of_toNat_eq he
  rcases Nat.lt_trichotomy t.val t'.val with h | h | h
  · have := rank_lt_rank v h he'; omega
  · exact Fin.ext h
  · have := rank_lt_rank v h he'.symm; omega

/-- The slot of a token in the gathered rows: 32 slots for each expert, of which the first 25 are used. -/
def slot (t : Fin 1024) : ℕ := 32 * expert v t + rank v t

theorem slot_lt (hv : Routed v) {t : Fin 1024} (h : rank v t < 25) : slot v t < 1024 := by
  have := hv t; unfold slot; omega

theorem slot_inj {t t' : Fin 1024} (h : rank v t < 25) (h' : rank v t' < 25) (e : slot v t = slot v t') : t = t' := by
  unfold slot at e
  exact token_unique v (by omega) (by omega)

/-- The slot as the word the kernel computes: all ones for a token that has none. -/
def slotWord (t : Fin 1024) : BitVec 32 := if rank v t < 25 then BitVec.ofNat 32 (slot v t) else 4294967295#32

/-- Token `t`'s slot is number `r`: the comparison of words is the comparison of numbers. -/
theorem slotWord_eq_iff (hv : Routed v) (t : Fin 1024) {r : ℕ} (hr : r < 1024) :
    slotWord v t = BitVec.ofNat 32 r ↔ rank v t < 25 ∧ slot v t = r := by
  unfold slotWord
  by_cases h : rank v t < 25
  · have := slot_lt v hv h
    rw [if_pos h]
    refine ⟨fun e => ⟨h, ?_⟩, fun e => by rw [e.2]⟩
    have := congrArg BitVec.toNat e
    simp only [BitVec.toNat_ofNat] at this
    omega
  · rw [if_neg h]
    refine ⟨fun e => ?_, fun e => absurd e.1 h⟩
    have := congrArg BitVec.toNat e
    simp only [BitVec.toNat_ofNat] at this
    omega

/-- The result at token `t`, column `o`. -/
def result (x : (⟨2, ![1024, 512]⟩ : Shape).Idx → EReal) (w : (⟨3, ![32, 512, 1024]⟩ : Shape).Idx → EReal) (t o : Fin 1024) : EReal :=
  if rank v t < 25 then ∑ k : Fin 512, x (ix2 t k) * w (ix3 ⟨expert v t % 32, Nat.mod_lt _ (by decide)⟩ k o) else 0

end Cert.Value

end
-- ==== Proof.Value.Ops.lean ====
/- The operations of the kernel and of the reference read at one index, at the ideal values: an indicator, a sum of
   indicators, a number read back from a float, two contractions and the gather of whole matrices. -/
module

public import Idealize.ShloMosaic.Lib.ValueIdx
public import Idealize.ShloMosaic.Lib.ValueIdxCore
public import Idealize.ShloMosaic.PureOps.Ideal.Laws

@[expose] public section

noncomputable section

namespace Cert.Value

open Idealize.ShloMosaic Idealize.ShloMosaic.ValueIdx
open scoped BigOperators

/-- One if the proposition holds, zero if it does not. -/
def ind (p : Prop) [Decidable p] : EReal := if p then 1 else 0

/-- A one-bit word widened and made a float is its indicator. -/
theorem bit_float (b : BitVec 1) (p : Prop) [Decidable p] (h : b = 1#1 ↔ p) :
    (FloatOps.sitofp (F := Ideal) .f32 (b.setWidth 32) : EReal) = ind p := by
  show ((((b.setWidth 32).toInt : ℤ) : ℝ) : EReal) = ind p
  unfold ind
  rcases BitVec.eq_zero_or_eq_one b with h0 | h1
  · subst h0
    rw [if_neg fun hp => absurd (h.mpr hp) (by decide)]
    simp
  · subst h1
    rw [if_pos (h.mp rfl)]
    simp

/-- A comparison for equality gives the bit one exactly when the words are equal. -/
theorem cmpi_eq_one {w : ℕ} (a b : BitVec w) : IntOp.cmpi .eq a b = 1#1 ↔ a = b := by
  show BitVec.ofBool (a == b) = 1#1 ↔ a = b
  by_cases h : a = b
  · subst h; simp
  · rw [beq_eq_false_iff_ne.mpr h]; simp [h]

/-- A signed comparison of small numbers is the comparison of the numbers. -/
theorem cmpi_slt_one {a b : ℕ} (ha : a < 2 ^ 31) (hb : b < 2 ^ 31) :
    IntOp.cmpi .slt (BitVec.ofNat 32 a) (BitVec.ofNat 32 b) = 1#1 ↔ a < b := by
  unfold IntOp.cmpi
  have : (BitVec.ofNat 32 a).slt (BitVec.ofNat 32 b) = decide (a < b) := by
    rw [BitVec.slt_eq_decide, BitVec.toInt_eq_toNat_of_lt, BitVec.toInt_eq_toNat_of_lt]
    · simp only [BitVec.toNat_ofNat, Nat.cast_lt]
      rw [Nat.mod_eq_of_lt (by omega), Nat.mod_eq_of_lt (by omega)]
    all_goals simp only [BitVec.toNat_ofNat]; omega
  by_cases h : a < b <;> simp [this, h]

/-- A sum of indicators is how many hold. -/
theorem sum_ind {ι : Type} [Fintype ι] (p : ι → Prop) [DecidablePred p] :
    ∑ i, ind (p i) = (((Finset.univ.filter p).card : ℝ) : EReal) := by
  unfold ind
  rw [Finset.sum_ite, Finset.sum_const_zero, add_zero, Finset.sum_const, nsmul_one]
  rfl

theorem ind_mul (p q : Prop) [Decidable p] [Decidable q] : ind p * ind q = ind (p ∧ q) := by
  unfold ind
  by_cases hp : p <;> by_cases hq : q <;> simp [hp, hq]

/-- A sum against an indicator that holds at one place is the value there. -/
theorem sum_mul_ind {ι : Type} [Fintype ι] (f : ι → EReal) (p : ι → Prop) [DecidablePred p] (a : ι) (h : ∀ i, p i ↔ i = a) :
    ∑ i, f i * ind (p i) = f a := by
  rw [Finset.sum_eq_single a]
  · unfold ind; rw [if_pos ((h a).mpr rfl), mul_one]
  · intro b _ hb; unfold ind; rw [if_neg fun e => hb ((h b).mp e), mul_zero]
  · exact fun e => absurd (Finset.mem_univ a) e

theorem sum_ind_mul {ι : Type} [Fintype ι] (f : ι → EReal) (p : ι → Prop) [DecidablePred p] (a : ι) (h : ∀ i, p i ↔ i = a) :
    ∑ i, ind (p i) * f i = f a :=
  (Finset.sum_congr rfl fun i _ => mul_comm _ _).trans (sum_mul_ind f p a h)

/-- A sum against an indicator that holds nowhere is zero. -/
theorem sum_ind_mul_zero {ι : Type} [Fintype ι] (f : ι → EReal) (p : ι → Prop) [DecidablePred p] (h : ∀ i, ¬ p i) :
    ∑ i, ind (p i) * f i = 0 :=
  Finset.sum_eq_zero fun i _ => by unfold ind; rw [if_neg (h i), zero_mul]

/-- A count read back from a float is the count. -/
theorem fptosi_nat {n : ℕ} (h : n < 1024) : Ideal.fptosi 32 (((n : ℝ)) : EReal) = BitVec.ofNat 32 n := by
  unfold Ideal.fptosi
  have e : ∀ lo hi : ℤ, lo ≤ 0 → (n : ℤ) ≤ hi → Ideal.toIntClamped lo hi (((n : ℝ)) : EReal) = n := fun lo hi h1 h2 => by
    show max lo (min hi (if (0 : ℝ) ≤ n then ⌊(n : ℝ)⌋ else ⌈(n : ℝ)⌉)) = n
    rw [if_pos (Nat.cast_nonneg n), Int.floor_natCast, min_eq_right h2, max_eq_right (h1.trans (Int.natCast_nonneg n))]
  rw [e _ _ (by norm_num) (by norm_num; omega)]
  exact BitVec.ofInt_natCast 32 n

/-- A product contracted over the rows of both operands, read at an index. -/
theorem matmul_rows_apply {K M N : ℕ} {φ₁ φ₂ : FTy} (d : DotDims ⟨2, ![K, M]⟩ ⟨2, ![K, N]⟩ ⟨2, ![M, N]⟩)
    (h1 : d.lhsContracting = [0]) (h2 : d.rhsContracting = [0]) (h3 : d.lhsNonContracting = [1]) (h4 : d.rhsNonContracting = [1])
    (h5 : d.lhsBatch = []) (h6 : d.rhsBatch = []) (prec : Option ContractPrecision)
    (lhs : FVec Ideal ⟨2, ![K, M]⟩ φ₁) (rhs : FVec Ideal ⟨2, ![K, N]⟩ φ₂) (r : Fin M) (c : Fin N) :
    FloatOps.matmul d prec lhs rhs (constant ⟨2, ![M, N]⟩ .f32 0x00000000#32) (ix2 r c) = ∑ k : Fin K, lhs (ix2 k r) * rhs (ix2 k c) := by
  obtain ⟨_, _, _, _, _, _, wf⟩ := d
  simp only at h1 h2 h3 h4 h5 h6
  subst h1 h2 h3 h4 h5 h6
  rw [Ideal.matmul_constant_zero_apply]
  refine ((Equiv.sum_comp (contrEquiv1 _ K rfl rfl).symm _).symm).trans (Finset.sum_congr rfl fun k _ => ?_)
  have hk := contrEquiv1_symm_val (⟨[0], [0], [1], [1], [], [], wf⟩ : DotDims ⟨2, ![K, M]⟩ ⟨2, ![K, N]⟩ ⟨2, ![M, N]⟩) K rfl rfl k
  refine congrArg₂ (· * ·) (congrArg lhs (funext fun a => Fin.ext ?_)) (congrArg rhs (funext fun a => Fin.ext ?_))
  · match a with
    | ⟨0, _⟩ => exact hk
    | ⟨1, _⟩ => rfl
  · match a with
    | ⟨0, _⟩ => exact hk
    | ⟨1, _⟩ => rfl

/-- One row times its own matrix, row by row, read at an index. -/
theorem dot_stack_apply {T K N : ℕ} {φ₁ φ₂ : FTy} (d : DotDims ⟨2, ![T, K]⟩ ⟨3, ![T, K, N]⟩ ⟨2, ![T, N]⟩)
    (h1 : d.lhsContracting = [1]) (h2 : d.rhsContracting = [1]) (h3 : d.lhsNonContracting = []) (h4 : d.rhsNonContracting = [2])
    (h5 : d.lhsBatch = [0]) (h6 : d.rhsBatch = [0]) (prec : Option ContractPrecision) (sched : HostSchedule)
    (lhs : FVec Ideal ⟨2, ![T, K]⟩ φ₁) (rhs : FVec Ideal ⟨3, ![T, K, N]⟩ φ₂) (t : Fin T) (o : Fin N) :
    FloatOps.dotGeneral d prec sched lhs rhs (ix2 t o) = ∑ k : Fin K, lhs (ix2 t k) * rhs (ix3 t k o) := by
  obtain ⟨_, _, _, _, _, _, wf⟩ := d
  simp only at h1 h2 h3 h4 h5 h6
  subst h1 h2 h3 h4 h5 h6
  rw [Ideal.dotGeneral_apply]
  refine ((Equiv.sum_comp (contrEquiv1 _ K rfl rfl).symm _).symm).trans (Finset.sum_congr rfl fun k _ => ?_)
  have hk := contrEquiv1_symm_val (⟨[1], [1], [], [2], [0], [0], wf⟩ : DotDims ⟨2, ![T, K]⟩ ⟨3, ![T, K, N]⟩ ⟨2, ![T, N]⟩) K rfl rfl k
  refine congrArg₂ (· * ·) (congrArg lhs (funext fun a => Fin.ext ?_)) (congrArg rhs (funext fun a => Fin.ext ?_))
  · match a with
    | ⟨0, _⟩ => rfl
    | ⟨1, _⟩ => exact hk
  · match a with
    | ⟨0, _⟩ => rfl
    | ⟨1, _⟩ => exact hk
    | ⟨2, _⟩ => rfl

/-- The matrix chosen for each row: where the index at row `t` is `b`, entry `(k, o)` of the gathered matrix is that of
    matrix `b`. -/
theorem gather_mats_apply {α : Type} {E K N T : ℕ} (d : GatherDims ⟨3, ![E, K, N]⟩ ⟨2, ![T, 1]⟩ ⟨3, ![T, K, N]⟩)
    (h1 : d.offsetDims = [1, 2]) (h2 : d.collapsedSliceDims = [0]) (h3 : d.operandBatchingDims = [])
    (h5 : d.startIndexMap = [0]) (h6 : d.indexVectorDim = 1)
    (x : (⟨3, ![E, K, N]⟩ : Shape).Idx → α) (idx : IVec ⟨2, ![T, 1]⟩ 32) (t : Fin T) (k : Fin K) (o : Fin N) (b : Fin E)
    (hb : (idx (ix2 t 0)).toInt.toNat = b.val) : Host.gather d x idx (ix3 t k o) = x (ix3 b k o) := by
  refine congrArg x (funext fun a => Fin.ext ?_)
  have hbl := b.isLt
  have hbN : ∀ a', a' ∉ d.operandBatchingDims := fun a' => by rw [h3]; exact List.not_mem_nil
  have ek : d.sKept = [1, 2] := by unfold GatherDims.sKept; rw [h2, h3]; rfl
  have eb : d.batchDims = [0] := by unfold GatherDims.batchDims; rw [h1]; rfl
  match a with
  | ⟨0, _⟩ =>
    have hk : (0 : Fin 3) ∉ d.sKept := by rw [ek]; exact (by decide : (0 : Fin 3) ∉ ([1, 2] : List (Fin 3)))
    have hm : (0 : Fin 3) ∈ d.startIndexMap := by rw [h5]; exact List.mem_singleton.2 rfl
    have hsl : d.sliceSizes 0 = 1 := d.slice_collapsed 0 (by rw [h2]; exact List.mem_singleton.2 rfl)
    show d.start (ix3 t k o) idx 0 + d.batchCoord (ix3 t k o) 0 + d.offCoord (ix3 t k o) 0 = b.val
    rw [d.batchCoord_eq_zero _ _ (hbN 0), d.offCoord_eq_zero _ _ hk]
    simp only [Nat.add_zero]
    unfold GatherDims.start
    rw [dif_pos hm]
    have e0 : ∀ X : Fin 3, X ∈ d.batchDims → (ix3 t k o X).val = t.val := fun X h => by
      rw [eb] at h; rw [List.mem_singleton.1 h]; rfl
    have hsi : d.siIdx (ix3 t k o) ⟨d.startIndexMap.idxOf 0, List.idxOf_lt_length_iff.2 hm⟩ = ix2 t (0 : Fin 1) := by
      funext b'
      apply Fin.ext
      match b' with
      | ⟨0, _⟩ =>
        unfold GatherDims.siIdx
        rw [dif_neg (by rw [h6]; exact Nat.zero_ne_one)]
        unfold GatherDims.siCoord
        simp only [Fin.val_cast]
        exact e0 _ (List.getElem_mem _)
      | ⟨1, _⟩ =>
        unfold GatherDims.siIdx
        rw [dif_pos (by rw [h6])]
        show List.idxOf (0 : Fin 3) d.startIndexMap = 0
        rw [h5]; rfl
    rw [hsi, hb, hsl]
    show min b.val (E - 1) = b.val
    omega
  | ⟨1, _⟩ =>
    have hk : (1 : Fin 3) ∈ d.sKept := by rw [ek]; exact (by decide : (1 : Fin 3) ∈ ([1, 2] : List (Fin 3)))
    have hm : (1 : Fin 3) ∉ d.startIndexMap := by rw [h5]; exact (by decide : (1 : Fin 3) ∉ ([0] : List (Fin 3)))
    show d.start (ix3 t k o) idx 1 + d.batchCoord (ix3 t k o) 1 + d.offCoord (ix3 t k o) 1 = k.val
    rw [d.batchCoord_eq_zero _ _ (hbN 1), Nat.add_zero]
    unfold GatherDims.start GatherDims.offCoord
    rw [dif_neg hm, dif_pos hk, Nat.zero_add]
    have : ∀ (l l' : List (Fin 3)) (e' : l' = [1, 2]) (e : l = [1, 2]) (h : l'.idxOf 1 < l.length), (ix3 t k o l[l'.idxOf 1]).val = k.val := by
      intro l l' e' e h; subst e e'; rfl
    exact this _ _ ek h1 _
  | ⟨2, _⟩ =>
    have hk : (2 : Fin 3) ∈ d.sKept := by rw [ek]; exact (by decide : (2 : Fin 3) ∈ ([1, 2] : List (Fin 3)))
    have hm : (2 : Fin 3) ∉ d.startIndexMap := by rw [h5]; exact (by decide : (2 : Fin 3) ∉ ([0] : List (Fin 3)))
    show d.start (ix3 t k o) idx 2 + d.batchCoord (ix3 t k o) 2 + d.offCoord (ix3 t k o) 2 = o.val
    rw [d.batchCoord_eq_zero _ _ (hbN 2), Nat.add_zero]
    unfold GatherDims.start GatherDims.offCoord
    rw [dif_neg hm, dif_pos hk, Nat.zero_add]
    have : ∀ (l l' : List (Fin 3)) (e' : l' = [1, 2]) (e : l = [1, 2]) (h : l'.idxOf 2 < l.length), (ix3 t k o l[l'.idxOf 2]).val = o.val := by
      intro l l' e' e h; subst e e'; rfl
    exact this _ _ ek h1 _

end Cert.Value

end
-- ==== Proof.Value.Slot.lean ====
/- What the kernel computes for a token first: its slot, from the choices of all tokens. -/
module

public import proofs.«01_k».proof.Proof.Gen.KernelIdeal.Skeleton
public import proofs.«01_k».proof.Proof.Value.Route
public import proofs.«01_k».proof.Proof.Value.Ops
public import Idealize.ShloMosaic.Lib.MatmulPlain
public import Idealize.ShloMosaic.Lib.ValueLayoutCasts
public import Idealize.ShloMosaic.Lib.Pipeline.Value

@[expose] public section

noncomputable section

namespace Cert.Value

open Cert.KernelIdeal Cert.KernelIdeal.Gen
open Idealize.ShloMosaic Idealize.ShloMosaic.ValueIdx
open scoped BigOperators

/-- A column spread over `n` columns reads, everywhere in a row, the column's entry. -/
theorem spread_apply {α : Type} {n : ℕ} (x : (⟨2, ![1024, 1]⟩ : Shape).Idx → α) (h : (⟨2, ![1024, 1]⟩ : Shape).Broadcasts ⟨2, ![1024, n]⟩)
    (t : Fin 1024) (c : Fin n) : broadcastTo ⟨2, ![1024, n]⟩ x h (ix2 t c) = x (ix2 t 0) :=
  broadcastTo_apply x h _ _ fun a => match a with
    | ⟨0, _⟩ => rfl
    | ⟨1, _⟩ => rfl

/-- A column compared with the column numbers moved by `o`, as a float: the indicator of the entry being that number. -/
theorem hit_apply {n : ℕ} (x : (⟨2, ![1024, 1]⟩ : Shape).Idx → BitVec 32) (h : (⟨2, ![1024, 1]⟩ : Shape).Broadcasts ⟨2, ![1024, n]⟩)
    (hi : (⟨2, ![1024, n]⟩ : Shape).Iotas .tc 32 [1]) (t : Fin 1024) (c : Fin n) :
    (FloatOps.sitofp (F := Ideal) .f32 ((IntOp.cmpi .eq (broadcastTo ⟨2, ![1024, n]⟩ x h (ix2 t c)) (iota .tc ⟨2, ![1024, n]⟩ 32 [1] hi (ix2 t c))).setWidth 32) : EReal)
      = ind (x (ix2 t 0) = BitVec.ofNat 32 c.val) :=
  bit_float _ _ (by rw [cmpi_eq_one, spread_apply, iota_single_apply]; rfl)

variable (v : Choice)

/-- Which expert each token chose, as a matrix of zeros and ones. -/
def chosen : FVec Ideal S1024x32 .bf16 :=
  truncf .bf16 (sitofp .f32 (extui 32 (cmpi .eq (broadcastTo S1024x32 (shapeCast S1024x1 v shapeCasts_S1024x1_S1024x1) broadcasts_S1024x1_S1024x32)
    (iota .tc S1024x32 32 [1] iota_S1024x32_d1_w32)) natLt_1_32)) bitsLt_bf16_f32

/-- Which token comes before which, as a matrix of zeros and ones. -/
def before : FVec Ideal S1024x1024 .bf16 :=
  truncf .bf16 (sitofp .f32 (extui 32 (cmpi .slt (iota .tc S1024x1024 32 [1] iota_S1024x1024_d1_w32) (iota .tc S1024x1024 32 [0] iota_S1024x1024_d0_w32))
    natLt_1_32)) bitsLt_bf16_f32

theorem chosen_apply (t : Fin 1024) (e : Fin 32) : chosen v (ix2 t e) = ind (v (ix2 t 0) = BitVec.ofNat 32 e.val) := by
  unfold chosen
  rw [shapeCast_self]
  exact hit_apply v _ _ t e

theorem before_apply (t t' : Fin 1024) : before (ix2 t t') = ind (t'.val < t.val) :=
  bit_float _ _ (by
    show IntOp.cmpi .slt (iota .tc S1024x1024 32 [1] _ (ix2 t t')) (iota .tc S1024x1024 32 [0] _ (ix2 t t')) = 1#1 ↔ _
    rw [iota_single_apply, iota_single_apply]
    exact cmpi_slt_one (by show t'.val < _; omega) (by show t.val < _; omega))

/-- The tokens before `t` that chose expert `e`, counted. -/
def counts : FVec Ideal S1024x32 .f32 :=
  matmul dot_S1024x1024_S1024x32_S1024x32_1_0_0_1_n_n none before (chosen v) (constant S1024x32 .f32 0x00000000#32)

theorem counts_apply (t : Fin 1024) (e : Fin 32) :
    counts v (ix2 t e) = (((Finset.univ.filter fun t' : Fin 1024 => t'.val < t.val ∧ v (ix2 t' 0) = BitVec.ofNat 32 e.val).card : ℝ) : EReal) := by
  refine (Ideal.matmul_plain_apply none before (chosen v) (constant S1024x32 .f32 0x00000000#32) t e).trans ?_
  rw [constant_apply, Ideal.ofBits_zero_f32, zero_add, ← sum_ind]
  exact Finset.sum_congr rfl fun t' _ => by rw [before_apply, chosen_apply, ind_mul]

/-- The count of the expert that token `t` chose. -/
def ranks : FVec Ideal S1024x1 .f32 :=
  shapeCast S1024x1 (multiReduction .add [1] S1024 (mulf (counts v) (extf .f32 (chosen v) bitsLt_bf16_f32)) 0x00000000#32 reduces_S1024x32_S1024 (.inl rfl) rfl)
    shapeCasts_S1024_S1024x1

theorem ranks_apply (hv : Routed v) (t : Fin 1024) : ranks v (ix2 t 0) = ((rank v t : ℝ) : EReal) := by
  have ht := hv t
  have h0 : v (ix2 t 0) = BitVec.ofNat 32 (expert v t) := choice_eq v t
  refine (shapeCast_a_a1_apply _ _ t 0).trans ((Ideal.multiReduction_add_single _ _ _ _ _ _).trans ?_)
  refine ((Finset.sum_congr rfl fun e _ => ?_ :
    _ = ∑ e : Fin 32, counts v (ix2 t e) * ind (v (ix2 t 0) = BitVec.ofNat 32 e.val))).trans ?_
  · rw [← chosen_apply]
    have : reduces_S1024x32_S1024.lift (ix1 t) e = ix2 t e := funext fun a => match a with
      | ⟨0, _⟩ => rfl
      | ⟨1, _⟩ => rfl
    rw [this]; rfl
  · rw [sum_mul_ind _ _ ⟨expert v t, ht⟩ fun e => ?_, counts_apply]
    · unfold rank earlier
      rw [h0]
    · rw [h0]
      refine ⟨fun h => Fin.ext ?_, fun h => by rw [h]⟩
      have := congrArg BitVec.toNat h
      simp only [BitVec.toNat_ofNat] at this
      show e.val = expert v t
      omega

/-- The slot of token `t`, as the kernel computes it. -/
theorem slot_apply (hv : Routed v) (t : Fin 1024) : k0_pay2 (F := Ideal) v (ix2 t 0) = slotWord v t := by
  have ht := hv t
  have hr := rank_lt v t
  have h0 : v (ix2 t 0) = BitVec.ofNat 32 (expert v t) := choice_eq v t
  have hR : Ideal.fptosi 32 (ranks v (ix2 t 0)) = BitVec.ofNat 32 (rank v t) := by rw [ranks_apply v hv, fptosi_nat hr]
  have e : k0_pay2 (F := Ideal) v (ix2 t 0)
      = Scalar.select (IntOp.cmpi .slt (Ideal.fptosi 32 (ranks v (ix2 t 0))) 25#32)
          (shapeCast S1024x1 v shapeCasts_S1024x1_S1024x1 (ix2 t 0) * 32#32 + Ideal.fptosi 32 (ranks v (ix2 t 0))) 4294967295#32 := rfl
  rw [e, hR, shapeCast_self, h0]
  unfold slotWord
  by_cases h : rank v t < 25
  · rw [(cmpi_slt_one (by omega) (by omega)).mpr h, select_one, if_pos h]
    unfold slot
    apply BitVec.eq_of_toNat_eq
    simp only [BitVec.toNat_add, BitVec.toNat_mul, BitVec.toNat_ofNat]
    omega
  · rw [eq_zero_of_ne_one fun e => h ((cmpi_slt_one (by omega) (by omega)).mp e), select_zero, if_neg h]

end Cert.Value

end
-- ==== Proof.Value.Rows.lean ====
/- What one device computes: its 128 slots gathered from the tokens, each 32 of them times one of its four experts'
   matrices, read at an index. -/
module

public import proofs.«01_k».proof.Proof.RunIdeal.Contents
public import proofs.«01_k».proof.Proof.Value.Slot
public import Idealize.ShloMosaic.Lib.ValueLayout

@[expose] public section

noncomputable section

namespace Cert.Value

open Cert.KernelIdeal Cert.KernelIdeal.Gen Cert.KernelIdeal.Gather
open Idealize.ShloMosaic Idealize.ShloMosaic.ValueIdx
open scoped BigOperators

variable (v : Choice)

/-- The number of the first slot of device `d`, as a word. -/
theorem base_word : ∀ d : Dev nD, Scalar.muli (Scalar.remsi (Scalar.divsi (Dev.word d) 1#32) 8#32) 128#32 = BitVec.ofNat 32 (128 * d.val) := by
  decide

/-- Slot `s` of device `d` holds the row of the token whose slot it is. -/
theorem gathered_apply (hv : Routed v) (x : FVec Ideal S1024x512 .bf16) (d : Dev nD) (s : Fin 128) (k : Fin 512) (t : Fin 1024)
    (hr : rank v t < 25) (hs : slot v t = 128 * d.val + s.val) : k0_pay3 (F := Ideal) d v x (ix2 s k) = x (ix2 t k) := by
  have hd : d.val < 8 := d.isLt
  refine (matmul_rows_apply dot_S1024x128_S1024x512_S128x512_0_0_1_1_n_n rfl rfl rfl rfl rfl rfl none _ _ s k).trans ?_
  rw [shapeCast_self]
  refine (Finset.sum_congr rfl fun t' _ => congrArg (· * x (ix2 t' k)) (bit_float _ (slotWord v t' = BitVec.ofNat 32 (128 * d.val + s.val)) ?_)).trans ?_
  · show IntOp.cmpi .eq (broadcastTo S1024x128 (k0_pay2 (F := Ideal) v) _ (ix2 t' s))
      (iota .tc S1024x128 32 [1] _ (ix2 t' s) + Scalar.muli (Scalar.remsi (Scalar.divsi (Dev.word d) 1#32) 8#32) 128#32) = 1#1 ↔ _
    rw [cmpi_eq_one, spread_apply, slot_apply v hv, iota_single_apply, base_word, ← BitVec.ofNat_add, Nat.add_comm]
  · refine sum_ind_mul _ _ t fun t' => ?_
    rw [slotWord_eq_iff v hv t' (by omega)]
    exact ⟨fun h => slot_inj v h.1 hr (h.2.trans hs.symm), fun h => by rw [h]; exact ⟨hr, hs⟩⟩

/-- 32 slots times one expert's matrix. -/
theorem product_apply (sl : FVec Ideal S32x512 .bf16) (w : FVec Ideal S1x512x1024 .bf16) (s : Fin 32) (o : Fin 1024) :
    matmul (φ₂ := .bf16) dot_S32x512_S512x1024_S32x1024_1_0_0_1_n_n none sl (shapeCast S512x1024 w shapeCasts_S1x512x1024_S512x1024)
      (constant S32x1024 .f32 0x00000000#32) (ix2 s o) = ∑ k : Fin 512, sl (ix2 s k) * w (ix3 0 k o) := by
  refine (Ideal.matmul_plain_apply none sl _ (constant S32x1024 .f32 0x00000000#32) s o).trans ?_
  rw [constant_apply, Ideal.ofBits_zero_f32, zero_add]
  exact Finset.sum_congr rfl fun k _ => by rw [shapeCast_1ab_ab_apply]

theorem pay4_apply (sl : FVec Ideal S128x512 .bf16) (w : FVec Ideal S1x512x1024 .bf16) (s : Fin 32) (o : Fin 1024) :
    k0_pay4 sl w (ix2 s o) = ∑ k : Fin 512, sl (ix2 ⟨0 + s.val, by omega⟩ k) * w (ix3 0 k o) := by
  unfold k0_pay4
  rw [shapeCast_self]
  exact (product_apply _ w s o).trans (Finset.sum_congr rfl fun k _ => by rw [slice2_axis0_eq])

theorem pay5_apply (sl : FVec Ideal S128x512 .bf16) (w : FVec Ideal S1x512x1024 .bf16) (s : Fin 32) (o : Fin 1024) :
    k0_pay5 sl w (ix2 s o) = ∑ k : Fin 512, sl (ix2 ⟨32 + s.val, by omega⟩ k) * w (ix3 0 k o) := by
  unfold k0_pay5
  rw [shapeCast_self]
  exact (product_apply _ w s o).trans (Finset.sum_congr rfl fun k _ => by rw [slice2_axis0_eq])

theorem pay6_apply (sl : FVec Ideal S128x512 .bf16) (w : FVec Ideal S1x512x1024 .bf16) (s : Fin 32) (o : Fin 1024) :
    k0_pay6 sl w (ix2 s o) = ∑ k : Fin 512, sl (ix2 ⟨64 + s.val, by omega⟩ k) * w (ix3 0 k o) := by
  unfold k0_pay6
  rw [shapeCast_self]
  exact (product_apply _ w s o).trans (Finset.sum_congr rfl fun k _ => by rw [slice2_axis0_eq])

theorem pay7_apply (sl : FVec Ideal S128x512 .bf16) (w : FVec Ideal S1x512x1024 .bf16) (s : Fin 32) (o : Fin 1024) :
    k0_pay8 (k0_pay7 sl w) (ix2 s o) = ∑ k : Fin 512, sl (ix2 ⟨96 + s.val, by omega⟩ k) * w (ix3 0 k o) := by
  unfold k0_pay8 k0_pay7
  rw [shapeCast_self]
  exact (product_apply _ w s o).trans (Finset.sum_congr rfl fun k _ => by rw [slice2_axis0_eq])

variable (m : (ℓ : Loc nD τ sig) → Buf (Elt Ideal) ℓ)

/-- A device's four matrices as it holds them. -/
def mats (c : Dev nD) : (⟨3, ![4, 512, 1024]⟩ : Shape).Idx → EReal := wstg m c

/-- The matrix loaded for a device's `j`-th expert is the `j`-th of the four it holds. -/
theorem wld_apply (c : Dev nD) (j : Fin 4) (k : Fin 512) (o : Fin 1024) :
    (wld m c j : S1x512x1024.Idx → EReal) (ix3 0 k o) = mats m c (ix3 j k o) := by
  fin_cases j
  all_goals
    refine congrArg (mats m c) (funext fun a => Fin.ext ((ValueKit.rect_emb_unit_val _ _ _ _ _).trans ?_))
    fin_cases a
    · rfl
    · exact Nat.zero_add _
    · exact Nat.zero_add _

/-- The rows a device's `j`-th expert makes, at an index. -/
theorem rows_apply (c : Dev nD) (j : Fin 4) (s : Fin 32) (o : Fin 1024) :
    rows m c j (ix2 s o) = ∑ k : Fin 512, slots m c (ix2 ⟨32 * j.val + s.val, by omega⟩ k) * mats m c (ix3 j k o) := by
  refine Eq.trans ?_ (Finset.sum_congr rfl fun k _ => congrArg (slots m c (ix2 ⟨32 * j.val + s.val, by omega⟩ k) * ·) (wld_apply m c j k o))
  fin_cases j
  · exact pay4_apply _ _ s o
  · exact pay5_apply _ _ s o
  · exact pay6_apply _ _ s o
  · exact pay7_apply _ _ s o

end Cert.Value

end
-- ==== Proof.Value.Output.lean ====
/- What the kernel leaves on every device: at each token that has a slot its row times its expert's matrix, at every
   other token zero. -/
module

public import proofs.«01_k».proof.Proof.Value.Rows

@[expose] public section

noncomputable section

namespace Cert.Value

open Cert.KernelIdeal Cert.KernelIdeal.Gen Cert.KernelIdeal.Gather
open Idealize.ShloMosaic Idealize.ShloMosaic.ValueIdx
open scoped BigOperators

variable (v : Choice)

/-- The matrix that reads the slots back: one where the column is the token's slot. -/
theorem back_apply (hv : Routed v) (t r : Fin 1024) :
    k0_pay9 (F := Ideal) (k0_pay2 (F := Ideal) v) (ix2 t r) = ind (rank v t < 25 ∧ slot v t = r.val) := by
  refine bit_float _ _ ?_
  show IntOp.cmpi .eq (broadcastTo S1024x1024 (k0_pay2 (F := Ideal) v) _ (ix2 t r)) (iota .tc S1024x1024 32 [1] _ (ix2 t r)) = 1#1 ↔ _
  rw [cmpi_eq_one, spread_apply, slot_apply v hv, iota_single_apply]
  exact slotWord_eq_iff v hv t r.isLt

/-- The result as a product with the gathered rows. -/
theorem final_apply (l : FVec Ideal S1024x1024 .bf16) (g : FVec Ideal S1024x1024 .bf16) (t o : Fin 1024) :
    k0_pay1 (F := Ideal) l g (ix2 t o) = ∑ r : Fin 1024, l (ix2 t r) * g (ix2 r o) := by
  refine (Ideal.matmul_plain_apply none l g (constant S1024x1024 .f32 0x00000000#32) t o).trans ?_
  rw [constant_apply, Ideal.ofBits_zero_f32, zero_add]

variable (m : (ℓ : Loc nD τ sig) → Buf (Elt Ideal) ℓ)
variable (x : (⟨2, ![1024, 512]⟩ : Shape).Idx → EReal) (w : (⟨3, ![32, 512, 1024]⟩ : Shape).Idx → EReal)

/-- The gathered row at a token's slot. -/
theorem full_apply (hv : Routed v) (hi : ∀ c, istg m c = v) (hx : ∀ c, xstg m c = x)
    (hw : ∀ (c : Dev nD) (j : Fin 4) (k : Fin 512) (o : Fin 1024), mats m c (ix3 j k o) = w (ix3 ⟨4 * c.val + j.val, by have : c.val < 8 := c.isLt; omega⟩ k o))
    (t o : Fin 1024) (hr : rank v t < 25) (r : Fin 1024) (hs : slot v t = r.val) :
    full m (ix2 r o) = ∑ k : Fin 512, x (ix2 t k) * w (ix3 ⟨expert v t % 32, Nat.mod_lt _ (by decide)⟩ k o) := by
  have he := hv t
  have hrl := r.isLt
  have hse : slot v t = 32 * expert v t + rank v t := rfl
  refine (rows_apply m ⟨r.val / 128, by show _ < 8; omega⟩ ⟨r.val % 128 / 32, by omega⟩ ⟨r.val % 32, by omega⟩ o).trans ?_
  refine Finset.sum_congr rfl fun k _ => congrArg₂ (· * ·) ?_ ?_
  · unfold slots
    rw [hi, hx]
    refine gathered_apply v hv x _ _ k t hr ?_
    show slot v t = 128 * (r.val / 128) + (32 * (r.val % 128 / 32) + r.val % 32)
    omega
  · rw [hw]
    refine congrArg (fun e => w (ix3 e k o)) (Fin.ext ?_)
    show 4 * (r.val / 128) + r.val % 128 / 32 = expert v t % 32
    omega

/-- What the kernel leaves on device `c`. -/
theorem outAt_apply (hv : Routed v) (hi : ∀ c, istg m c = v) (hx : ∀ c, xstg m c = x)
    (hw : ∀ (c : Dev nD) (j : Fin 4) (k : Fin 512) (o : Fin 1024), mats m c (ix3 j k o) = w (ix3 ⟨4 * c.val + j.val, by have : c.val < 8 := c.isLt; omega⟩ k o))
    (c : Dev nD) (t o : Fin 1024) : outAt m c (ix2 t o) = result v x w t o := by
  unfold outAt
  rw [hi]
  refine (final_apply _ _ t o).trans ?_
  refine (Finset.sum_congr rfl fun r _ => congrArg (· * full m (ix2 r o)) (back_apply v hv t r)).trans ?_
  unfold result
  by_cases hr : rank v t < 25
  · rw [if_pos hr, ← full_apply v m x w hv hi hx hw t o hr ⟨slot v t, slot_lt v hv hr⟩ rfl]
    exact sum_ind_mul (fun r => full m (ix2 r o)) _ _ fun r => ⟨fun h => Fin.ext h.2.symm, fun h => by rw [h]; exact ⟨hr, rfl⟩⟩
  · rw [if_neg hr]
    exact sum_ind_mul_zero (fun r => full m (ix2 r o)) _ fun r h => hr h.1

end Cert.Value

end
-- ==== Proof.Value.Reference.lean ====
/- What the reference leaves: the result at every token and column, as `Route` states it. -/
module

public import proofs.«01_k».proof.Proof.Gen.ReferenceIdeal.Run
public import proofs.«01_k».proof.Proof.Value.Route
public import proofs.«01_k».proof.Proof.Value.Ops
public import Idealize.ShloMosaic.Lib.IdealHost
public import Idealize.ShloMosaic.Lib.Routing.Ops

@[expose] public section

noncomputable section

namespace Cert.Value.Reference

open Cert.ReferenceIdeal Cert.ReferenceIdeal.Gen
open Idealize.ShloMosaic Idealize.ShloMosaic.ValueIdx Idealize.ShloMosaic.Routing
open scoped BigOperators

variable (v : Choice) (x : FVec Ideal S1024x512 .bf16) (w : FVec Ideal S32x512x1024 .bf16)

/-- The choices as a row of 1024 words. -/
def line : IVec S1024 32 := shapeCast S1024 v shapeCasts_S1024x1_S1024

theorem line_apply (t : Fin 1024) : line v (ix1 t) = v (ix2 t 0) :=
  cast21 v shapeCasts_S1024x1_S1024 t 0 t (by show t.val = t.val * 1 + 0; omega)

/-- A row of words laid down the columns of a square. -/
def across (e : IVec S1024 32) : IVec S1024x1024 32 :=
  broadcastInDim S1024x1024 ![0, 1] bcast_S1x1024_S1024x1024_0_1 (broadcastInDim S1x1024 ![1] bcast_S1024_S1x1024_1 e)

/-- A row of words laid along the rows of a square. -/
def down (e : IVec S1024 32) : IVec S1024x1024 32 :=
  broadcastInDim S1024x1024 ![0, 1] bcast_S1024x1_S1024x1024_0_1 (broadcastInDim S1024x1 ![0] bcast_S1024_S1024x1_0 e)

theorem across_apply (e : IVec S1024 32) (t q : Fin 1024) : across e (ix2 t q) = e (ix1 q) := bcCols _ _ e t q

theorem down_apply (e : IVec S1024 32) (t q : Fin 1024) : down e (ix2 t q) = e (ix1 t) := bcRows _ _ e t q

/-- Which token precedes which with the same expert. -/
def precedes : IVec S1024x1024 1 :=
  andi (cmpi .eq (across (line v)) (down (line v))) (cmpi .slt (across (iotaInDim S1024 32 0)) (down (iotaInDim S1024 32 0)))

/-- Both bits are one exactly when their conjunction is. -/
theorem and_one (a b : BitVec 1) : IntOp.andi a b = 1#1 ↔ a = 1#1 ∧ b = 1#1 := by
  revert a b; decide

theorem precedes_apply (t q : Fin 1024) : precedes v (ix2 t q) = 1#1 ↔ q.val < t.val ∧ v (ix2 q 0) = v (ix2 t 0) := by
  refine (and_one (IntOp.cmpi .eq (across (line v) (ix2 t q)) (down (line v) (ix2 t q)))
    (IntOp.cmpi .slt (across (iotaInDim S1024 32 0) (ix2 t q)) (down (iotaInDim S1024 32 0) (ix2 t q)))).trans ?_
  rw [across_apply, across_apply, down_apply, down_apply, cmpi_eq_one, line_apply, line_apply, and_comm]
  exact and_congr_left' (cmpi_slt_one (a := q.val) (b := t.val) (by omega) (by omega))

/-- The tokens before each one that chose its expert, counted. -/
def count : IVec S1024 32 :=
  Host.reduce IntOp.addi (extui 32 (precedes v) natLt_1_32) (constantI S_ 32 0#32) reducesTo_S1024x1024_S1024_d1 h_S_

theorem count_apply (t : Fin 1024) : count v (ix1 t) = BitVec.ofNat 32 (rank v t) := by
  refine BitVec.eq_of_toNat_eq ((StableHlo.Predicate.toNat_reduce_count_cols (by norm_num) (precedes v) natLt_1_32 _ _ (ix1 t)).trans ?_)
  have hr := rank_lt v t
  rw [BitVec.toNat_ofNat, Nat.mod_eq_of_lt (by omega)]
  unfold rank earlier
  refine congrArg Finset.card (Finset.filter_congr fun q _ => ?_)
  rw [ij_eq_ix2]
  exact precedes_apply v t q

/-- The experts as the reference indexes with them: a negative one would count from the end. -/
def indices : IVec S1024x1 32 :=
  broadcastInDim S1024x1 ![0] bcast_S1024_S1024x1_0
    (select (cmpi .slt (line v) (broadcastInDim S1024 ![] bcast_S_S1024 (constantI S_ 32 0#32)))
      (addi (line v) (broadcastInDim S1024 ![] bcast_S_S1024 (constantI S_ 32 32#32))) (line v))

theorem indices_apply (hv : Routed v) (t : Fin 1024) : (indices v (ix2 t 0)).toInt.toNat = expert v t := by
  have ht := hv t
  have e : indices v (ix2 t 0) = BitVec.ofNat 32 (expert v t) := by
    unfold indices
    rw [bcCol]
    show (if IntOp.cmpi .slt (line v (ix1 t)) (broadcastInDim S1024 ![] bcast_S_S1024 (constantI S_ 32 0#32) (ix1 t)) = 1#1 then _ else line v (ix1 t)) = _
    rw [bc0, line_apply, choice_eq v t]
    show (if IntOp.cmpi .slt (BitVec.ofNat 32 (expert v t)) (BitVec.ofNat 32 0) = 1#1 then _ else _) = _
    exact if_neg fun h => Nat.not_lt_zero _ ((cmpi_slt_one (by omega) (by omega)).mp h)
  rw [e, StableHlo.Predicate.toInt_ofNat_small _ (by omega)]
  rfl

/-- Each token's row times its expert's matrix. -/
def product : FVec Ideal S1024x1024 .f32 :=
  Host.dotGeneral (F := Ideal) dot_S1024x512_S1024x512x1024_S1024x1024_1_1_n_2_0_0 none x
    (Host.gather gather_S32x512x1024_S1024x1_S1024x512x1024_12_0_n_n_0_1_15121024 w (indices v))

theorem product_apply (hv : Routed v) (t o : Fin 1024) :
    product v x w (ix2 t o) = ∑ k : Fin 512, x (ix2 t k) * w (ix3 ⟨expert v t % 32, Nat.mod_lt _ (by decide)⟩ k o) := by
  refine (dot_stack_apply _ rfl rfl rfl rfl rfl rfl none _ x _ t o).trans (Finset.sum_congr rfl fun k _ => congrArg (x (ix2 t k) * ·) ?_)
  exact gather_mats_apply _ rfl rfl rfl rfl rfl w (indices v) t k o _ ((indices_apply v hv t).trans (Nat.mod_eq_of_lt (hv t)).symm)

/-- Which tokens are among the first 25 of their expert. -/
def kept : IVec S1024 1 := cmpi .slt (count v) (broadcastInDim S1024 ![] bcast_S_S1024 (constantI S_ 32 25#32))

theorem kept_apply (t : Fin 1024) : kept v (ix1 t) = 1#1 ↔ rank v t < 25 := by
  have hr := rank_lt v t
  have h : IntOp.cmpi .slt (count v (ix1 t)) (broadcastInDim S1024 ![] bcast_S_S1024 (constantI S_ 32 25#32) (ix1 t)) = 1#1 ↔ rank v t < 25 := by
    rw [bc0, count_apply]
    exact cmpi_slt_one (b := 25) (by omega) (by omega)
  exact h

/-- Zero everywhere. -/
def zeros : FVec Ideal S1024x1024 .f32 := broadcastInDim S1024x1024 ![] bcast_S_S1024x1024 (id (constant S_ .f32 0x00000000#32))

theorem zeros_apply (i : S1024x1024.Idx) : zeros i = 0 := by
  unfold zeros
  rw [bc0]
  exact Ideal.ofBits_zero_f32

/-- The reference's result. -/
def wanted : FVec Ideal S1024x1024 .f32 :=
  select (broadcastInDim S1024x1024 ![0, 1] bcast_S1024x1_S1024x1024_0_1 (broadcastInDim S1024x1 ![0] bcast_S1024_S1024x1_0 (kept v)))
    (product v x w) zeros

theorem wanted_apply (hv : Routed v) (t o : Fin 1024) : wanted v x w (ix2 t o) = result v x w t o := by
  have h : (if broadcastInDim S1024x1024 ![0, 1] bcast_S1024x1_S1024x1024_0_1 (broadcastInDim S1024x1 ![0] bcast_S1024_S1024x1_0 (kept v)) (ix2 t o) = 1#1
      then product v x w (ix2 t o) else zeros (ix2 t o)) = result v x w t o := by
    rw [bcRows, product_apply v x w hv, zeros_apply]
    exact if_congr (kept_apply v t) rfl rfl
  exact h

end Cert.Value.Reference

end
-- ==== Proof.Value.Equation.lean ====
/- What the precondition says of the choices, how each device's matrices lie in the whole array, and the equation: where
   every token chose one of the 32 experts, every device ends with the reference's result. -/
module

public import proofs.«01_k».proof.Defs
public import proofs.«01_k».proof.Proof.RunIdeal.Run
public import proofs.«01_k».proof.Proof.Value.Output
public import proofs.«01_k».proof.Proof.Value.Reference
public import Idealize.ShloMosaic.Lib.ReduceAll
public import Idealize.ShloMosaic.Lib.Layout

@[expose] public section

noncomputable section

namespace Cert.Value

open Idealize.ShloMosaic Idealize.ShloMosaic.ValueIdx Idealize.ShloMosaic.TcCoe Cert.KernelIdeal.Gather Cert.Value.Reference

/-- A word that is at least zero and below 32, both as signed numbers, is a number below 32. -/
theorem small_word (a : BitVec 32) (h : IntOp.andi (IntOp.cmpi .sge a 0#32) (IntOp.cmpi .slt a 32#32) = 1#1) : a.toNat < 32 := by
  obtain ⟨h1, h2⟩ := (and_one _ _).mp h
  have h1 : (BitVec.ofBool ((0#32).sle a)) = 1#1 := h1
  have h2 : (BitVec.ofBool (a.slt 32#32)) = 1#1 := h2
  rw [StableHlo.Predicate.ofBool_eq_one_iff] at h1 h2
  rw [BitVec.sle_eq_decide, decide_eq_true_eq, BitVec.toInt_zero] at h1
  rw [BitVec.slt_eq_decide, decide_eq_true_eq, show (32#32 : BitVec 32).toInt = 32 from by decide] at h2
  rw [BitVec.toInt_eq_toNat_cond] at h1 h2
  have := a.isLt
  split at h1 <;> omega

/-- The facts the precondition states of its shapes. -/
theorem routedFacts : Cert.Pre_routed_KernelIdeal.Facts := ⟨by decide, by decide, by decide⟩

theorem routedFactsReference : Cert.Pre_routed_ReferenceIdeal.Facts := ⟨by decide, by decide, by decide⟩

/-- The precondition: every token chose one of the 32 experts. -/
theorem routed_of_pre (h : Cert.Pre_routed_KernelIdeal.Facts) (a0 : FVec Ideal Cert.Pre_routed_KernelIdeal.S1024x512 .bf16)
    (a1 : FVec Ideal Cert.Pre_routed_KernelIdeal.S512x32 .bf16) (v : Choice) (a3 : FVec Ideal Cert.Pre_routed_KernelIdeal.S4x512x1024 .bf16)
    (e : Cert.Pre_routed_KernelIdeal.fn (F := Ideal) a0 a1 v a3 = fun _ => 1#1) : Routed v := fun t => by
  have : Subsingleton Cert.Pre_routed_KernelIdeal.S_.Idx := ⟨fun a b => funext fun i => i.elim0⟩
  have h1 := Host.reduce_andi_all _ _ h.reducesTo_S1024x1_S_d0_1 h.h_S_ ix0 (congrFun e ix0) (ix2 t 0)
  have h2 : IntOp.andi (IntOp.cmpi .sge (v (ix2 t 0)) (broadcastInDim Cert.Pre_routed_KernelIdeal.S1024x1 (![] : Fin 0 → Fin 2) h.bcast_S_S1024x1 (constantI Cert.Pre_routed_KernelIdeal.S_ 32 0#32) (ix2 t 0)))
      (IntOp.cmpi .slt (v (ix2 t 0)) (broadcastInDim Cert.Pre_routed_KernelIdeal.S1024x1 (![] : Fin 0 → Fin 2) h.bcast_S_S1024x1 (constantI Cert.Pre_routed_KernelIdeal.S_ 32 32#32) (ix2 t 0))) = 1#1 := h1
  rw [Routing.bc0, Routing.bc0] at h2
  exact small_word _ h2

/-- Block `c` of the matrices: the `j`-th of it is matrix `4 c + j` of the whole array. -/
theorem block_mats (w : (⟨3, ![32, 512, 1024]⟩ : Shape).Idx → EReal) (c : Fin 8) (j : Fin 4) (k : Fin 512) (o : Fin 1024) :
    Layout.block ⟨3, ![4, 512, 1024]⟩ ⟨3, ![32, 512, 1024]⟩ 0 8 c w (by decide) (ix3 j k o) = w (ix3 ⟨4 * c.val + j.val, by omega⟩ k o) := by
  rw [Layout.block_apply]
  refine congrArg w (funext fun a => Fin.ext ?_)
  rw [Layout.Tiles.idx_val]
  match a with
  | ⟨0, _⟩ => show c.val * 4 + j.val = 4 * c.val + j.val; omega
  | ⟨1, _⟩ => rfl
  | ⟨2, _⟩ => rfl

/-- Every device ends with the reference's result. -/
theorem outAt_eq (m : (ℓ : Loc Cert.KernelIdeal.nD Cert.KernelIdeal.τ Cert.KernelIdeal.sig) → Buf (Elt Ideal) ℓ) (v : Choice) (hv : Routed v)
    (x : FVec Ideal Cert.ReferenceIdeal.S1024x512 .bf16) (w : FVec Ideal Cert.ReferenceIdeal.S32x512x1024 .bf16)
    (hx : ∀ c : Dev Cert.KernelIdeal.nD, m ((c.tc : Thread Cert.KernelIdeal.nD Cert.KernelIdeal.τ).loc Cert.KernelIdeal.main_arg0) = x)
    (hi : ∀ c : Dev Cert.KernelIdeal.nD, m ((c.tc : Thread Cert.KernelIdeal.nD Cert.KernelIdeal.τ).loc Cert.KernelIdeal.main_arg2) = v)
    (hw : ∀ c : Dev Cert.KernelIdeal.nD, m ((c.tc : Thread Cert.KernelIdeal.nD Cert.KernelIdeal.τ).loc Cert.KernelIdeal.main_arg3)
      = Layout.block ⟨3, ![4, 512, 1024]⟩ ⟨3, ![32, 512, 1024]⟩ 0 8 c w (by decide))
    (c : Dev Cert.KernelIdeal.nD) : outAt m c = wanted v x w := by
  refine funext fun (i : (⟨2, ![1024, 1024]⟩ : Shape).Idx) => ?_
  obtain ⟨t, o, rfl⟩ : ∃ t o : Fin 1024, i = ix2 t o := ⟨i 0, i 1, eq_ix2 i⟩
  refine (outAt_apply v m x w hv (fun c => (istg_eq m c).trans (hi c)) (fun c => (xstg_eq m c).trans (hx c)) (fun c j k o => ?_) c t o).trans
    (wanted_apply v x w hv t o).symm
  exact (congrFun ((wstg_eq m c).trans (hw c)) (ix3 j k o)).trans (block_mats w c j k o)

end Cert.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RunKernel.Run
public import proofs.«01_k».proof.Proof.RunIdeal.Run
public import proofs.«01_k».proof.Proof.Value.Equation

@[expose] public section

noncomputable section

namespace Cert.Proof

open Idealize.ShloMosaic Idealize.SL.Sem

/-- The kernel runs from any memory, its arguments unchanged and every counter back at zero. -/
theorem kernel_runs : Cert.quiescent_Kernel (hKernel := Cert.Kernel.Gen.facts) := fun m g _ =>
  (θ_run Cert.Kernel.defs _ _).mono (fun _ h => ⟨fun c => (h.1 c).2, h.2⟩) (Cert.Kernel.Gather.run_bufs (F := Bits) m g)

/-- The idealized kernel runs from any memory, its arguments unchanged and every counter back at zero. -/
theorem ideal_runs (m : (ℓ : Loc Cert.KernelIdeal.nD Cert.KernelIdeal.τ Cert.KernelIdeal.sig) → Buf (Elt Ideal) ℓ) (g : Dev Cert.KernelIdeal.nD → PrngReg) :
    θ_run Cert.KernelIdeal.defs (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => (h.1 c).2, h.2⟩) (Cert.KernelIdeal.Gather.run_bufs m g)

/-- The reference runs from any memory, its arguments unchanged; it has no counters. -/
theorem reference_runs (m : (ℓ : Loc Cert.ReferenceIdeal.nD Cert.ReferenceIdeal.τ Cert.ReferenceIdeal.sig) → Buf (Elt Ideal) ℓ) (g : Dev Cert.ReferenceIdeal.nD → PrngReg) :
    θ_run Cert.ReferenceIdeal.defs (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩) (Cert.ReferenceIdeal.Value.run m g)

/-- Where every token chose one of the 32 experts, every device of the idealized kernel ends with the reference's result. -/
theorem equal : Cert.algebraic_KernelIdeal_ReferenceIdeal_pre_routed_KernelIdeal (hKernelIdeal := Cert.KernelIdeal.Gen.facts)
    (hReferenceIdeal := Cert.ReferenceIdeal.Gen.facts) (hPre_routed_KernelIdeal := Cert.Value.routedFacts) := fun m g m' g' hp hm => by
  refine ⟨_, (θ_run Cert.KernelIdeal.defs _ _).mono (fun _ h c => ⟨((h.1 c).1).trans ?_, (h.1 c).2⟩) (Cert.KernelIdeal.Gather.run_bufs (F := Ideal) m g),
    (θ_run Cert.ReferenceIdeal.defs _ _).mono (fun _ h => h 0) (Cert.ReferenceIdeal.Value.run (F := Ideal) m' g')⟩
  have hv : Cert.Value.Routed (m' (((0 : Dev Cert.ReferenceIdeal.nD).tc : Thread Cert.ReferenceIdeal.nD Cert.ReferenceIdeal.τ).loc Cert.ReferenceIdeal.main_arg2)) := by
    have := Cert.Value.routed_of_pre Cert.Value.routedFacts _ _ _ _ (hp 0)
    rw [(hm 0).2.2.1] at this
    exact this
  exact Cert.Value.outAt_eq m _ hv _ _ (fun c => (hm c).1) (fun c => (hm c).2.2.1) (fun c => (hm c).2.2.2) c

theorem claim : Cert.Claim :=
  ⟨Cert.Kernel.Gen.facts, Cert.KernelIdeal.Gen.facts, Cert.ReferenceIdeal.Gen.facts, Cert.Value.routedFacts, Cert.Value.routedFactsReference,
    kernel_runs, fun m g _ => ideal_runs m g, fun m g _ => ideal_runs m g, fun m g _ => reference_runs m g, fun m g _ => reference_runs m g,
    trivial, equal⟩

end Cert.Proof

end
